-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .bf16 := Host.absf main_arg3
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .bf16) (main_arg1 : FVec F S1024x4096 .bf16) (main_arg2 : FVec F S4096x1024 .bf16) (main_arg3 : FVec F S1024x1024 .bf16) (main_arg4 : FVec F S1024x1024 .bf16) : IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x1024 .bf16 := Host.absf main_arg3
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S2 : Shape := ⟨1, ![2]⟩
abbrev S_ : Shape := ⟨0, ![]⟩
abbrev S1024x256 : Shape := ⟨2, ![1024, 256]⟩
abbrev S256x256 : Shape := ⟨2, ![256, 256]⟩
abbrev S256x512 : Shape := ⟨2, ![256, 512]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c0_11 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v16 : BitVec 32 := Scalar.muli v2 c256_i32
  let v17 : Index := Scalar.indexCast v16
  ![0, v17.toNat]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_32 : BitVec 32 := 1#32
  let v74 : BitVec 32 := Scalar.muli v3 c1_i32_32
  let v75 : BitVec 32 := Scalar.addi c0_i32_33 v74
  v75.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_47 : BitVec 32 := 1#32
  let v93 : BitVec 32 := Scalar.muli v4 c1_i32_47
  let v94 : BitVec 32 := Scalar.addi c0_i32_48 v93
  v94.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S1024x1024 : Shape := ⟨2, ![1024, 1024]⟩
abbrev S1x256x4096 : Shape := ⟨3, ![1, 256, 4096]⟩
abbrev S1x256x32x128 : Shape := ⟨4, ![1, 256, 32, 128]⟩
abbrev S1x256x8x128 : Shape := ⟨4, ![1, 256, 8, 128]⟩
abbrev S1x256x8x4x128 : Shape := ⟨5, ![1, 256, 8, 4, 128]⟩
abbrev S_ : Shape := ⟨0, ![]⟩
abbrev S1x32x256x1 : Shape := ⟨4, ![1, 32, 256, 1]⟩
abbrev S1x32x256x256 : Shape := ⟨4, ![1, 32, 256, 256]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 57
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x4096, .bf16⟩
  | .hbm, ⟨2, _⟩ => ⟨S4096x1024, .bf16⟩
  | .hbm, ⟨3, _⟩ => ⟨S1024x1024, .bf16⟩
  | .hbm, ⟨4, _⟩ => ⟨S1024x1024, .bf16⟩
  | .hbm, ⟨5, _⟩ => ⟨S1x256x4096, .f32⟩
  | .hbm, ⟨6, _⟩ => ⟨S1x256x4096, .bf16⟩
  | .hbm, ⟨7, _⟩ => ⟨S1x256x32x128, .bf16⟩
  | .hbm, ⟨8, _⟩ => ⟨S1x256x1024, .f32⟩
  | .hbm, ⟨9, _⟩ => ⟨S1x256x1024, .bf16⟩
  | .hbm, ⟨10, _⟩ => ⟨S1x256x8x128, .bf16⟩
  | .hbm, ⟨11, _⟩ => ⟨S1x256x1024, .f32⟩
  | .hbm, ⟨12, _⟩ => ⟨S1x256x1024, .bf16⟩
  | .hbm, ⟨13, _⟩ => ⟨S1x256x8x128, .bf16⟩
  | .hbm, ⟨14, _⟩ => ⟨S1x256x8x4x128, .bf16⟩
  | .hbm, ⟨15, _⟩ => ⟨S1x256x32x128, .bf16⟩
  | .hbm, ⟨16, _⟩ => ⟨S1x256x8x4x128, .bf16⟩
  | .hbm, ⟨17, _⟩ => ⟨S1x256x32x128, .bf16⟩
  | .hbm, ⟨18, _⟩ => ⟨S_, .f32⟩
  | .hbm, ⟨19, _⟩ => ⟨S1x256x32x128, .f32⟩
  | .hbm, ⟨20, _⟩ => ⟨S_, .f32⟩
  | .hbm, ⟨21, _⟩ => ⟨S1x32x256x1, .f32⟩
  | .hbm, ⟨22, _⟩ => ⟨S_, .f32⟩
  | .hbm, ⟨23, _⟩ => ⟨S1x32x256x1, .f32⟩
  | .hbm, ⟨24, _⟩ => ⟨S1x32x256x256, .f32⟩
  | .hbm, ⟨25, _⟩ => ⟨S1x32x256x256, .bf16⟩
  | .hbm, ⟨26, _⟩ => ⟨S1x32x256x256, .f32⟩
  | .hbm, ⟨27, _⟩ => ⟨S_, .f32⟩
  | .hbm, ⟨28, _⟩ => ⟨S1x32x256x256, .f32⟩
  | .hbm, ⟨29, _⟩ => ⟨S1x32x256x256, .f32⟩
  | .hbm, ⟨30, _⟩ => ⟨S_, .f32⟩
  | .hbm, ⟨31, _⟩ => ⟨S1x32x256, .f32⟩
  | .hbm, ⟨32, _⟩ => ⟨S1x32x256x1, .f32⟩
  | .hbm, ⟨33, _⟩ => ⟨S1x32x256x1, .f32⟩
  | .hbm, ⟨34, _⟩ => ⟨S1x32x256x1, .f32⟩
  | .hbm, ⟨35, _⟩ => ⟨S1x32x256x1, .f32⟩
  | .hbm, ⟨36, _⟩ => ⟨S1x32x256x256, .f32⟩
  | .hbm, ⟨37, _⟩ => ⟨S1x32x256x256, .f32⟩
  | .hbm, ⟨38, _⟩ => ⟨S1x32x256x256, .f32⟩
  | .hbm, ⟨39, _⟩ => ⟨S1x32x256x1, .f32⟩
  | .hbm, ⟨40, _⟩ => ⟨S_, .f32⟩
  | .hbm, ⟨41, _⟩ => ⟨S1x32x256, .f32⟩
  | .hbm, ⟨42, _⟩ => ⟨S1x32x256x1, .f32⟩
  | .hbm, ⟨43, _⟩ => ⟨S1x32x256x1, .f32⟩
  | .hbm, ⟨44, _⟩ => ⟨S1x256x32x1, .f32⟩
  | .hbm, ⟨45, _⟩ => ⟨S1x256x32x128, .f32⟩
  | .hbm, ⟨46, _⟩ => ⟨S1x256x32x128, .f32⟩
  | .hbm, ⟨47, _⟩ => ⟨S1x256x32x128, .f32⟩
  | .hbm, ⟨48, _⟩ => ⟨S1x32x128x256, .f32⟩
  | .hbm, ⟨49, _⟩ => ⟨S1x256x32x128, .f32⟩
  | .hbm, ⟨50, _⟩ => ⟨S1x256x32x128, .f32⟩
  | .hbm, ⟨51, _⟩ => ⟨S1x256x32x1, .f32⟩
  | .hbm, ⟨52, _⟩ => ⟨S1x256x32x128, .f32⟩
  | .hbm, ⟨53, _⟩ => ⟨S1x256x32x128, .f32⟩
  | .hbm, ⟨54, _⟩ => ⟨S1x256x4096, .f32⟩
  | .hbm, ⟨55, _⟩ => ⟨S4096x1024, .f32⟩
  | .hbm, ⟨56, _⟩ => ⟨S1x256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Proof.Protocol.lean ====
/-
# The two-step all-reduce: its cells, its schedule, its order of waits

Four devices hold one partial product each. In step `e` (0, then 1) device `c` and its mate `mate e c` — the device
whose number differs in bit `e` — send each other what they hold so far, and each adds what arrived. Before the first
step every device tells both of its mates, on the runtime's barrier semaphore, that it is inside the kernel, and waits
until both have told it.

A device has five semaphores in the protocol, its PORTS: the barrier (`none`), the departure of step `e`
(`some (false, e)`) and the arrival of step `e` (`some (true, e)`). Every port has one round:

* the barrier's duty `e` is one unit, paid by `mate e c`, and hands over `mate e c`'s landing buffer of step `e`;
* the departure's duty is one block of bytes and hands the sent buffer back;
* the arrival's duty is one block of bytes, paid by `mate e c`, and hands over the landing buffer with its message.

Waits are ordered by `rank`: departures and staging 0, the barrier 1, the arrivals 2 and 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the protocol's, whose duties are named by a step -/

abbrev UX : Type := URounds (GSem nD τ sig) (Fin 2)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The mates -/

set_option backward.proofsInPublic true in
/-- The device that `c` exchanges with in step `e`: its number with bit `e` flipped. -/
def mate (e : Fin 2) (c : Dev nD) : Dev nD := ⟨(c.val ^^^ (e.val + 1)) % 4, Nat.mod_lt _ (by decide)⟩

theorem mate_mate (e : Fin 2) (c : Dev nD) : mate e (mate e c) = c := by revert e c; decide

/-- The flip as a permutation of the devices. -/
def flip (e : Fin 2) : Dev nD ≃ Dev nD := ⟨mate e, mate e, mate_mate e, mate_mate e⟩

theorem dev1_eq (c : Dev nD) : (⟨k0_dev1 c, k0_dev1_lt c⟩ : Dev nD) = mate 0 c := by revert c; decide +kernel
theorem dev2_eq (c : Dev nD) : (⟨k0_dev2 c, k0_dev2_lt c⟩ : Dev nD) = mate 1 c := by revert c; decide +kernel
theorem dev3_eq (c : Dev nD) : (⟨k0_dev3 c, k0_dev3_lt c⟩ : Dev nD) = mate 0 c := by revert c; decide +kernel
theorem dev4_eq (c : Dev nD) : (⟨k0_dev4 c, k0_dev4_lt c⟩ : Dev nD) = mate 1 c := by revert c; decide +kernel

/-! ## Buffers and ports -/

/-- The buffer sent in step `e`, -/
abbrev outM : Fin 2 → Memref sig .tc .vmem S256x1024 .bf16 := fun | 0 => Memref.whole cc0_scratch0 | 1 => Memref.whole cc0_scratch2
/-- and the buffer it lands in. -/
abbrev landM : Fin 2 → Memref sig .tc .vmem S256x1024 .bf16 := fun | 0 => Memref.whole cc0_scratch1 | 1 => Memref.whole cc0_scratch3

abbrev barS : Sem sig := (SemArray.scalar (sig.barrier 0 rfl) : Sems sig S_).sem
abbrev sndS : Fin 2 → DmaSem sig := fun
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem
abbrev rcvS : Fin 2 → DmaSem sig := fun
  | 0 => ((cc0_scratch5.slice (Rect.unit (s := S2) ![0] S1.size inb_S2_S1_0)).squeeze S_ squeezes_S1_S_).sem
  | 1 => ((cc0_scratch5.slice (Rect.unit (s := S2) ![1] S1.size inb_S2_S1_1)).squeeze S_ squeezes_S1_S_).sem

/-- A port of a device: barrier, departure of a step, arrival of a step. -/
abbrev Port : Type := Option (Bool × Fin 2)
abbrev bar : Port := none
abbrev snd (e : Fin 2) : Port := some (false, e)
abbrev rcv (e : Fin 2) : Port := some (true, e)

abbrev sem : Port → SemLoc sig := fun
  | none => .reg barS
  | some (false, e) => .dma (sndS e)
  | some (true, e) => .dma (rcvS e)
abbrev cell (c : Dev nD) (p : Port) : GSem nD τ sig := ((c : Thread nD τ), sem p)

/-- Which port a semaphore is, if any. -/
def portOf (s : SemLoc sig) : Option Port :=
  ([bar, snd 0, snd 1, rcv 0, rcv 1] : List Port).find? fun p => decide (sem p = s)

theorem portOf_sem (p : Port) : portOf (sem p) = some p := by revert p; decide +kernel

theorem sem_inj {p p' : Port} (h : sem p = sem p') : p = p' :=
  Option.some.inj ((portOf_sem p).symm.trans ((congrArg portOf h).trans (portOf_sem p')))

theorem cell_inj {c c' : Dev nD} {p p' : Port} (h : cell c p = cell c' p') : c = c' ∧ p = p' :=
  ⟨congrArg (fun g : GSem nD τ sig => g.1.1) h, sem_inj (congrArg Prod.snd h)⟩

/-- The units one message raises a semaphore by. -/
abbrev N : ℕ := (landM 0).view.dmaCredit
theorem N_pos : 0 < N := View.dmaCredit_pos _ (by decide)

/-! ## What the devices compute -/

def xIn (c : Dev nD) : Vec F S1x256x1024 .bf16 := iblk m c (0 : Fin 6) t0_0
def wqIn (c : Dev nD) : Vec F S1024x1024 .bf16 := iblk m c (1 : Fin 6) t0_0
def woIn (c : Dev nD) : Vec F S1024x1024 .bf16 := iblk m c (2 : Fin 6) t0_0
def wkIn (c : Dev nD) : Vec F S1024x1024 .bf16 := iblk m c (3 : Fin 6) t0_0
def wvIn (c : Dev nD) : Vec F S1024x1024 .bf16 := iblk m c (4 : Fin 6) t0_0

/-- The columns of a weight that device `c` uses. -/
def cols (c : Dev nD) (w : Vec F S1024x1024 .bf16) : Vec F S1024x256 .bf16 := fun i =>
  w ((Rect.unit (s := S1024x1024) (k0_off1 c) S1024x256.size (k0_off1_inb c)).toLoadRect.idx i)

/-- Device `c`'s partial product, -/
def part (c : Dev nD) : FVec F S256x1024 .f32 :=
  k0_pay8 (k0_pay3 (xIn m c) (wqIn m c)) (k0_pay4 (xIn m c) (cols c (wkIn m c))) (k0_pay5 (xIn m c) (cols c (wvIn m c)))
    (k0_pay6 (xIn m c) (cols c (wvIn m c))) (k0_pay7 (xIn m c) (wqIn m c) (cols c (wkIn m c))) (woIn m c)

/-- what it sends in the first step, -/
def msg0 (c : Dev nD) : FVec F S256x1024 .bf16 :=
  k0_pay9 (k0_pay3 (xIn m c) (wqIn m c)) (k0_pay4 (xIn m c) (cols c (wkIn m c))) (k0_pay5 (xIn m c) (cols c (wvIn m c)))
    (k0_pay6 (xIn m c) (cols c (wvIn m c))) (k0_pay7 (xIn m c) (wqIn m c) (cols c (wkIn m c))) (woIn m c)

/-- what it sends in each step, -/
def msg : Fin 2 → Dev nD → FVec F S256x1024 .bf16 := fun
  | 0, c => msg0 m c
  | 1, c => k0_pay11 (part m c) (msg0 m (mate 0 c))

/-- and its result. -/
def result (c : Dev nD) : FVec F S1x256x1024 .f32 :=
  k0_pay1 (k0_pay10 (part m c) (msg m 0 (mate 0 c))) (msg m 1 (mate 1 c))

/-! ## The schedule -/

/-- A buffer of device `c` whole, holding `X`. -/
abbrev has (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

/-- What paying duty `d` of device `c`'s port hands over. -/
def pay (c : Dev nD) (p : Option Port) (d : Fin 2) : sProp 𝕄 :=
  match p with
  | some none => iprop((∃ X, has (mate d c) (landM d) X) ∗ reached EX (cell (mate d c) (rcv d)) 0)
  | some (some (false, e)) => has c (outM e) (msg m e c)
  | some (some (true, e)) => has c (landM e) (msg m e (mate e c))
  | none => iprop(emp)

instance pay_storable (c : Dev nD) (p : Option Port) (d : Fin 2) : BI.Storable (upEmb : UEmb _ 𝕄) (pay (F := F) m c p d) := by
  unfold pay; split <;> infer_instance

/-- The duties of a port: the barrier's are the two steps', any other's is one. -/
def dutiesAt : Option Port → Finset (Fin 2) := fun
  | some none => Finset.univ
  | some (some _) => {0}
  | none => ∅

/-- One round at every port of every device. -/
def plan : Rounds.Schedule (GSem nD τ sig) (Fin 2) 𝕄 where
  duties g r := if r = 0 ∧ g.1.2 = .tc then dutiesAt (portOf g.2) else ∅
  unitless _ := False
  amount g _ _ := if portOf g.2 = some bar then 1 else N
  payload g _ d := pay m g.1.1 (portOf g.2) d
  amount_pos g _ _ _ := by split; exacts [Nat.one_pos, N_pos]

instance plan_storable (g : GSem nD τ sig) (r : ℕ) (d : Fin 2) :
    BI.Storable (upEmb : UEmb _ 𝕄) ((plan (F := F) m).payload g r d) := pay_storable m _ _ _

section Plan
variable (c : Dev nD) (p : Port)

theorem duties_at : (plan (F := F) m).duties (cell c p) 0 = dutiesAt (some p) := by
  dsimp only [plan]; rw [if_pos ⟨rfl, rfl⟩, portOf_sem]
theorem mem_bar (e : Fin 2) : e ∈ (plan (F := F) m).duties (cell c bar) 0 := by rw [duties_at]; exact Finset.mem_univ e
theorem mem_snd (e : Fin 2) : (0 : Fin 2) ∈ (plan (F := F) m).duties (cell c (snd e)) 0 := by
  rw [duties_at]; exact Finset.mem_singleton_self _
theorem mem_rcv (e : Fin 2) : (0 : Fin 2) ∈ (plan (F := F) m).duties (cell c (rcv e)) 0 := by
  rw [duties_at]; exact Finset.mem_singleton_self _
theorem duties_after (g : GSem nD τ sig) : ∀ r, 0 + 1 ≤ r → (plan (F := F) m).duties g r = ∅ :=
  fun r hr => if_neg fun h => absurd h.1 (by omega)

theorem amount_bar (d : Fin 2) : (plan (F := F) m).amount (cell c bar) 0 d = 1 := by
  dsimp only [plan]; exact if_pos (portOf_sem bar)
theorem amount_some (x : Bool × Fin 2) (d : Fin 2) : (plan (F := F) m).amount (cell c (some x)) 0 d = N := by
  dsimp only [plan]; exact if_neg fun h => by rw [portOf_sem] at h; cases h

theorem payload_at (d : Fin 2) : (plan (F := F) m).payload (cell c p) 0 d = pay m c (some p) d := by
  dsimp only [plan]; rw [portOf_sem]

theorem expect_bar : (plan (F := F) m).expect (cell c bar) 0 = 2 := by
  unfold Schedule.expect Schedule.amountOf
  rw [duties_at, Finset.sum_congr rfl fun d _ => amount_bar m c d]
  rfl
theorem expect_some (x : Bool × Fin 2) : (plan (F := F) m).expect (cell c (some x)) 0 = N := by
  unfold Schedule.expect Schedule.amountOf
  rw [duties_at, Finset.sum_congr rfl fun d _ => amount_some m c x d]
  exact Finset.sum_singleton _ _

/-- What a device has when its barrier's round is over: both mates' landing buffers. -/
theorem gets_bar : bigSep ((plan (F := F) m).duties (cell c bar) 0 \ ∅) (fun d => (plan (F := F) m).payload (cell c bar) 0 d)
    = iprop(pay m c (some bar) 0 ∗ pay m c (some bar) 1) := by
  simp only [Finset.sdiff_empty, duties_at, payload_at]
  exact bigSep_univ_eq_bigSepL [0, 1] (by decide) (by decide) _
theorem gets_some (x : Bool × Fin 2) :
    bigSep ((plan (F := F) m).duties (cell c (some x)) 0 \ ∅) (fun d => (plan (F := F) m).payload (cell c (some x)) 0 d)
      = pay m c (some (some x)) 0 := by
  simp only [Finset.sdiff_empty, duties_at, payload_at]
  exact bigSep_singleton

end Plan

/-! ## Dues and the order of waits -/

/-- What device `c` still owes after its first message has left: the second message; -/
abbrev due3 (c : Dev nD) : CellTallies nD τ sig Unit := tallyAt (cell (mate 1 c) (rcv 1)) () N
/-- after its signals: both messages; -/
abbrev due2 (c : Dev nD) : CellTallies nD τ sig Unit := due3 c + tallyAt (cell (mate 0 c) (rcv 0)) () N
/-- after its first signal: the second signal too; -/
abbrev due1 (c : Dev nD) : CellTallies nD τ sig Unit := due2 c + tallyAt (cell (mate 1 c) bar) () 1
/-- and at launch: both signals and both messages. -/
abbrev due0 (c : Dev nD) : CellTallies nD τ sig Unit := due1 c + tallyAt (cell (mate 0 c) bar) () 1

def tracked (g : GSem nD τ sig) : Finset Unit := if g.1.2 = .tc then {()} else ∅
theorem tracked_of_ne (g : GSem nD τ sig) (h : g.1.2 ≠ .tc) : tracked g = ∅ := if_neg h

def rankOf : Option Port → ℕ := fun
  | some none => 1
  | some (some (true, e)) => 2 + e.val
  | _ => 0
def rank (g : GSem nD τ sig) (_ : Unit) : ℕ := rankOf (portOf g.2)
theorem rank_cell (c : Dev nD) (p : Port) : rank (cell c p) () = rankOf (some p) := by unfold rank; rw [portOf_sem]

/-- A device may wait on a semaphore if all it owes is of higher rank. -/
theorem mayWait (c : Dev nD) (s : SemLoc sig) (O : CellTallies nD τ sig Unit)
    (h : ∀ g u, 0 < O g u → ∃ d p, g = cell d p ∧ rankOf (portOf s) < rankOf (some p)) :
    (levAts tracked rank : sProp 𝕄) ⊢ MayWait (c : Thread nD τ) s () O :=
  MayOwe.of_cut (L := tracked) (lev := rank) (rankOf (portOf s)) (fun q hq => by rw [Finset.mem_singleton.mp hq]; exact Finset.mem_singleton_self _)
    (fun g u hg => by obtain ⟨d, p, rfl, -⟩ := h g u hg; exact Finset.mem_singleton_self _)
    (fun q hq => by rw [Finset.mem_singleton.mp hq]; exact le_refl _)
    (fun g u hg => by obtain ⟨d, p, rfl, hp⟩ := h g u hg; exact (rank_cell d p).symm ▸ hp)

theorem due3_pos {c : Dev nD} {g : GSem nD τ sig} {u : Unit} (h : 0 < due3 c g u) : g = cell (mate 1 c) (rcv 1) :=
  (Pipeline.tallyAt_pos h).1
theorem due2_pos {c : Dev nD} {g : GSem nD τ sig} {u : Unit} (h : 0 < due2 c g u) : ∃ d e, g = cell d (rcv e) := by
  rcases Nat.add_pos_iff_pos_or_pos.mp h with h | h
  exacts [⟨_, _, due3_pos h⟩, ⟨_, _, (Pipeline.tallyAt_pos h).1⟩]
theorem due0_pos {c : Dev nD} {g : GSem nD τ sig} {u : Unit} (h : 0 < due0 c g u) : ∃ d p, g = cell d p ∧ 0 < rankOf (some p) := by
  rcases Nat.add_pos_iff_pos_or_pos.mp h with h | h
  · rcases Nat.add_pos_iff_pos_or_pos.mp h with h | h
    · obtain ⟨d, e, hd⟩ := due2_pos h
      exact ⟨d, _, hd, Nat.lt_of_lt_of_le Nat.two_pos (Nat.le_add_right _ _)⟩
    · exact ⟨_, _, (Pipeline.tallyAt_pos h).1, Nat.one_pos⟩
  · exact ⟨_, _, (Pipeline.tallyAt_pos h).1, Nat.one_pos⟩

/-- Before anything is paid, only semaphores of rank 0 may be waited on; -/
theorem mayWait_due0 (c : Dev nD) (s : SemLoc sig) (hs : rankOf (portOf s) = 0) :
    (levAts tracked rank : sProp 𝕄) ⊢ MayWait (c : Thread nD τ) s () (due0 c) :=
  mayWait c s _ fun g u h => by rw [hs]; exact due0_pos h
/-- with both signals sent, the barrier; -/
theorem mayWait_due2 (c : Dev nD) : (levAts tracked rank : sProp 𝕄) ⊢ MayWait (c : Thread nD τ) (sem bar) () (due2 c) :=
  mayWait c _ _ fun g u h => by
    obtain ⟨d, e, hd⟩ := due2_pos h
    exact ⟨d, _, hd, by rw [portOf_sem]; exact Nat.lt_of_lt_of_le Nat.one_lt_two (Nat.le_add_right _ _)⟩
/-- with the first message sent, its departure and the arrival of the mate's. -/
theorem mayWait_due3 (c : Dev nD) (x : Bool) :
    (levAts tracked rank : sProp 𝕄) ⊢ MayWait (c : Thread nD τ) (sem (some (x, 0))) () (due3 c) :=
  mayWait c _ _ fun g u h => ⟨_, _, due3_pos h, by rw [portOf_sem]; cases x <;> decide⟩

end Cert.Butterfly

end
-- ==== Proof.Body.lean ====
/-
# One device's run of the kernel's body

At a symbolic device `c`: from its tokens, places and credits, its staged inputs and its scratch buffers, the body
signals both mates, waits for both, computes its partial product, exchanges twice and stores the sum.
-/
module

public import proofs.«01_k».proof.Proof.Protocol

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device holds -/

/-- The invariants of every port of every device, under the names `K`, and that every port is at its first round. -/
def known (K : Dev nD × Port → ℕ) : sProp 𝕄 :=
  iprop((bigSep Finset.univ fun q : Dev nD × Port => cellInv EX (plan m) (K q) (cell q.1 q.2))
    ∗ bigSep Finset.univ fun q : Dev nD × Port => reached EX (cell q.1 q.2) 0)

instance known_persistent (K : Dev nD × Port → ℕ) : BI.Persistent (known (F := F) m K) := by unfold known; infer_instance

theorem known_inv (K : Dev nD × Port → ℕ) (c : Dev nD) (p : Port) :
    (known m K : sProp 𝕄) ⊢ cellInv EX (plan m) (K (c, p)) (cell c p) :=
  sep_elim_left.trans (bigSep_elim (Finset.mem_univ (c, p)))
theorem known_reached (K : Dev nD × Port → ℕ) (c : Dev nD) (p : Port) :
    (known m K : sProp 𝕄) ⊢ reached EX (cell c p) 0 :=
  sep_elim_right.trans (bigSep_elim (Finset.mem_univ (c, p)))

/-- The right to pay the duties of step `e` that are device `c`'s to pay. -/
def dues (c : Dev nD) (e : Fin 2) : sProp 𝕄 :=
  iprop(dutyTok EX (cell (mate e c) bar) 0 e ∗ dutyTok EX (cell c (snd e)) 0 0 ∗ dutyTok EX (cell (mate e c) (rcv e)) 0 0)

/-- A port of device `c` at its first round, nothing taken. -/
abbrev place (c : Dev nD) (p : Port) : sProp 𝕄 := atPos EX (cell c p) 0 ∅ 0

/-- A buffer at some contents. -/
abbrev some_ (c : Dev nD) {sp : Space} {s : Shape} {e : EltTy} (M : Memref sig .tc sp s e) : sProp 𝕄 := iprop(∃ X, has (F := F) c M X)

/-- A semaphore of device `c` back at zero. -/
abbrev idle (c : Dev nD) (p : Port) : sProp 𝕄 := semVal (cell c p) 0

/-! ## The five kinds of step -/

section Steps
variable (K : Dev nD × Port → ℕ) (c : Dev nD)

/-- Telling the mate of step `e`: it gets this device's landing buffer of the step. -/
theorem wp_tell (e : Fin 2) (n : Dev nD) (hn : n = mate e c) {u : ℕ} (hu : u = 1) {α : Type} {Q : α → sProp 𝕄} {k : PUnit → Prog (TpuEff nD τ sig (Elt F) Λ₀ .tc) α}
    (O : CellTallies nD τ sig Unit) (W : Waits sig Unit) :
    iprop(known m K ∗ owes (c : Thread nD τ) (O + tallyAt (cell (mate e c) bar) () 1) W
        ∗ dutyTok EX (cell (mate e c) bar) 0 e ∗ some_ c (landM e))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn hu
  iintro ⟨#HK, HO, Ht, Hl⟩
  iapply (Rounds.wp_signal 𝒱₀ EX (plan m) (c : Thread nD τ) none (dst := (mate e c : Thread nD τ)) (κ := K (mate e c, bar))
      (d := e) (mem_bar m (mate e c) e) (amount_bar m (mate e c) e) () O rfl)
  isplitr; · iapply (known_inv m K (mate e c) bar); iexact HK
  isplitl [HO]; · iexact HO
  isplitl [Ht]; · iexact Ht
  isplitl [Hl]
  · iapply (Entails.of_eq (payload_at m (mate e c) bar e).symm)
    unfold pay; dsimp only; rw [mate_mate]
    isplitl [Hl]; · iexact Hl
    iapply (known_reached m K c (rcv e)); iexact HK
  · iapply (known_reached m K (mate e c) bar); iexact HK

/-- Sending the message of step `e` into the mate's landing buffer. -/
theorem wp_pass (e : Fin 2) (n : Dev nD) (hn : n = mate e c)
    {hsc : (landM e : Memref sig (Dev.tc n : Thread nD τ).2.kind .vmem S256x1024 .bf16).view.ref.isScScratch = false}
    {hsrc : (outM e).view.WordExact} {hdst : (landM e).view.WordExact}
    {hsem : DmaTarget.Typed .vmem (.dma (rcvS e)) (.remote (Dev.tc n : Thread nD τ) (landM e) (.dma (sndS e)) hsc)}
    {α : Type} {Q : α → sProp 𝕄} {k : PUnit → Prog (TpuEff nD τ sig (Elt F) Λ₀ .tc) α}
    (hN : (landM e).view.amount (.dma (rcvS e)) = N) (O : CellTallies nD τ sig Unit) (W : Waits sig Unit) :
    iprop(known m K ∗ has c (outM e) (msg m e c) ∗ some_ (mate e c) (landM e)
        ∗ owes (c : Thread nD τ) (O + tallyAt (cell (mate e c) (rcv e)) () N) W
        ∗ dutyTok EX (cell c (snd e)) 0 0 ∗ dutyTok EX (cell (mate e c) (rcv e)) 0 0)
      ⊢ iprop(((cred (tallyAt (cell c (snd e)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outM e) (.remote (Dev.tc n : Thread nD τ) (landM e) (.dma (sndS e)) hsc) (.dma (rcvS e)) hsrc hdst hsem) k) Q) := by
  subst hn
  unfold some_ has owns
  iintro ⟨#HK, ⟨%fs, %hfs, Hs⟩, ⟨%X, %fd, %hfd, Hd⟩, HO, Hts, Htr⟩
  iapply (Rounds.wp_send_pointsTo 𝒱₀ EX (plan m) (c : Thread nD τ) none (c' := (mate e c : Thread nD τ)) (κ₁ := K (c, snd e)) (κ₂ := K (mate e c, rcv e))
    (r₁ := 0) (r₂ := 0) (d₁ := 0) (d₂ := 0) (fs := fs) (fd := fd) (mem_snd m c e) (mem_rcv m (mate e c) e)
    () () N hN (amount_some m c _ 0) (amount_some m (mate e c) _ 0) O rfl (W := W)
    (by
      rw [payload_at]; unfold pay has owns; dsimp only
      iintro H; iexists fs
      isplitr; · ipureintro; exact hfs
      iexact H)
    (by
      rw [payload_at]; unfold pay has owns; dsimp only; rw [mate_mate]
      iintro H; iexists _
      isplitr; rotate_left; · iexact H
      ipureintro; rw [View.read_write_univ]; exact hfs))
  isplitr; · iapply (known_inv m K c (snd e)); iexact HK
  isplitr; · iapply (known_inv m K (mate e c) (rcv e)); iexact HK
  isplitl [Hs]; · iexact Hs
  isplitl [Hd]; · iexact Hd
  isplitl [HO]; · iexact HO
  isplitl [Hts]; · iexact Hts
  isplitr; · iapply (known_reached m K c (snd e)); iexact HK
  isplitl [Htr]; · iexact Htr
  iapply (known_reached m K (mate e c) (rcv e)); iexact HK

/-- Waiting for the whole of a port's round: what its duties hand over, and the semaphore back at zero. -/
theorem wp_await (p : Port) {w : TpuEff nD τ sig (Elt F) Λ₀ .tc PUnit} {u : ℕ}
    (hw : ∀ Kt : PUnit → sProp 𝕄, wpE (defs₀ (F := F)) 𝒱₀ (c : Thread nD τ) none Set.univ w Kt = waitSpec (c : Thread nD τ) Set.univ (sem p) u Kt)
    (hu : u = (plan (F := F) m).expect (cell c p) 0) {α : Type} {Q : α → sProp 𝕄} {k : PUnit → Prog (TpuEff nD τ sig (Elt F) Λ₀ .tc) α}
    (O : CellTallies nD τ sig Unit) (W : Waits sig Unit) {G : sProp 𝕄}
    (hG : bigSep ((plan (F := F) m).duties (cell c p) 0 \ ∅) (fun d => (plan (F := F) m).payload (cell c p) 0 d) = G)
    (hO : (levAts tracked rank : sProp 𝕄) ⊢ MayWait (c : Thread nD τ) (sem p) () O) :
    iprop(known m K ∗ levAts tracked rank ∗ cred (tallyAt (cell c p) () u) ∗ owes (c : Thread nD τ) O W ∗ place c p)
      ⊢ iprop(((owes (c : Thread nD τ) O (insert (sem p, ()) W) ∗ idle c p ∗ G)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HK, #HL, Hc, HO, Hp⟩ Hk
  iapply (Rounds.wp_wait_rest_token 𝒱₀ EX (plan m) (c : Thread nD τ) none (κ := K (c, p)) hw (Set.mem_univ _) () (O := O) (W := W)
      (R := 0) (m := 0) (T := ∅) ((Nat.zero_add u).trans hu)) $$ [Hc HO Hp]
  · isplitr; · iapply (known_inv m K c p); iexact HK
    isplitl [Hc]; · iexact Hc
    isplitl [HO]; · iexact HO
    isplitr; · iapply hO; iexact HL
    iexact Hp
  iintro ⟨HO, Hp, -, Hpay⟩
  imod (Rounds.cell_close EX (plan m) (Set.mem_univ (K (c, p))) (fun h => h) (R := 0 + 1) (duties_after m (cell c p))) $$ [Hp] with Hz
  · isplitr; · iapply (known_inv m K c p); iexact HK
    iexact Hp
  iapply Hk
  isplitl [HO]; · iexact HO
  isplitl [Hz]; · iexact Hz
  ihave Hg := (Entails.of_eq hG) $$ Hpay
  iexact Hg

/-- Loading part of a buffer. -/
theorem wp_look {cs : CoreSpace} {s : Shape} {e : EltTy} {M : Memref sig .tc cs s e} {r : LoadRect s} {hl : M.view.LoadsAt r}
    {α : Type} {Q : α → sProp 𝕄} {k : (r.shape.Idx → Elt F e) → Prog (TpuEff nD τ sig (Elt F) Λ₀ .tc) α} {X : s.Idx → Elt F e} (Y : r.shape.Idx → Elt F e)
    (hY : (fun i => X (r.idx i)) = Y) :
    has c M X
      ⊢ iprop((has c M X -∗ wp frame (wpE (defs₀ (F := F)) 𝒱₀ (c : Thread nD τ) none) Set.univ (k Y) Q)
          -∗ wp frame (wpE (defs₀ (F := F)) 𝒱₀ (c : Thread nD τ) none) Set.univ (.op (.load M r hl) k) Q) := by
  unfold has owns
  iintro ⟨%f, %hf, H⟩ Hk
  iapply (wp_load 𝒱₀ (c : Thread nD τ) none Set.univ (m := M) (View.setOn_subset_set _ _)) $$ H
  iintro H
  have h : M.view.readAt (Elt F) r f = Y := by rw [← hY, ← hf]; rfl
  rw [h]
  iapply Hk
  iexists f
  isplitr; · ipureintro; exact hf
  iexact H

/-- Overwriting a buffer. -/
theorem wp_put {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    {α : Type} {Q : α → sProp 𝕄} {k : PUnit → Prog (TpuEff nD τ sig (Elt F) Λ₀ .tc) α} (Y : s.Idx → Elt F e)
    (hY : ∀ f, M.view.read (Elt F) ((M.access r).write (Elt F) f w Finset.univ) = Y) :
    some_ c M
      ⊢ iprop((has c M Y -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold some_ has owns
  iintro ⟨%X, %f, %hf, H⟩ Hk
  iapply (wp_store 𝒱₀ (c : Thread nD τ) none Set.univ (m := M) (r := r) (Mk := Finset.univ)
    ((View.setOn_subset_set _ _).trans (by rw [View.set_slice]; exact View.setOn_subset_set _ _))) $$ H
  iintro H
  iapply Hk
  iexists ((M.access r).write (Elt F) f w Finset.univ)
  isplitr; · ipureintro; exact hY f
  iexact H

end Steps

/-! ## The body -/

theorem zero2 : (![0, 0] : Fin 2 → Nat) = fun _ => 0 := funext fun a => by fin_cases a <;> rfl
theorem zero3 : (![0, 0, 0] : Fin 3 → Nat) = fun _ => 0 := funext fun a => by fin_cases a <;> rfl

/-- What device `c`'s protocol starts from, under the names `K`: the invariants, its ports at their first round, the
    duties it pays, the credits it waits with, the order of waits and its scratch buffers. -/
def ready (K : Dev nD × Port → ℕ) (c : Dev nD) : sProp 𝕄 :=
  iprop(known m K ∗ levAts tracked rank
    ∗ (place c bar ∗ place c (snd 0) ∗ place c (snd 1) ∗ place c (rcv 0) ∗ place c (rcv 1))
    ∗ (dues c 0 ∗ dues c 1)
    ∗ (cred (tallyAt (cell c bar) () 2) ∗ cred (tallyAt (cell c (rcv 0)) () N) ∗ cred (tallyAt (cell c (rcv 1)) () N))
    ∗ (some_ c (outM 0) ∗ some_ c (landM 0) ∗ some_ c (outM 1) ∗ some_ c (landM 1)))

/-- What its protocol ends in: all its semaphores at zero, its scratch buffers at some contents. -/
def over (c : Dev nD) : sProp 𝕄 :=
  iprop((idle c bar ∗ idle c (snd 0) ∗ idle c (snd 1) ∗ idle c (rcv 0) ∗ idle c (rcv 1))
    ∗ (some_ c (outM 0) ∗ some_ c (landM 0) ∗ some_ c (outM 1) ∗ some_ c (landM 1)))

/-- Device `c`'s staged inputs. -/
def inputs (c : Dev nD) : sProp 𝕄 :=
  iprop(has c (Memref.whole cc0_stg0_0) (xIn m c) ∗ has c (Memref.whole cc0_stg1_0) (wqIn m c) ∗ has c (Memref.whole cc0_stg2_0) (woIn m c)
    ∗ has c (Memref.whole cc0_stg3_0) (wkIn m c) ∗ has c (Memref.whole cc0_stg4_0) (wvIn m c))

set_option maxHeartbeats 1600000 in
/-- The body on device `c`: it ends with everything paid, its inputs as they were and the result stored. -/
theorem body_runs (K : Dev nD × Port → ℕ) (c : Dev nD) (W : Waits sig Unit) (Kt : PUnit → sProp 𝕄) :
    iprop(ready m K c ∗ owes (c : Thread nD τ) (due0 c) W ∗ inputs m c ∗ some_ c (Memref.whole cc0_stg5_0)
        ∗ ((over c ∗ (∃ W', owes (c : Thread nD τ) 0 W') ∗ inputs m c ∗ has c (Memref.whole cc0_stg5_0) (result m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5) Kt := by
  simp only [cc0_body_eq_skeleton]
  unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold ready inputs dues
  iintro ⟨⟨#HK, #HL, ⟨HpB, HpS0, HpS1, HpR0, HpR1⟩, ⟨⟨HtB0, HtS0, HtR0⟩, HtB1, HtS1, HtR1⟩, ⟨HcB, HcR0, HcR1⟩, HoM0, HlM0, ⟨%Xo1, HoM1⟩, HlM1⟩,
    HO, ⟨Hx, Hwq, Hwo, Hwk, Hwv⟩, ⟨%Xo, Hout⟩, Hk⟩
  -- both mates are told
  iapply (wp_tell m K c 0 _ (dev1_eq c) (by decide) (due1 c) W) $$ [HO HtB0 HlM0]
  · isplitr; · iexact HK
    isplitl [HO]; · iexact HO
    isplitl [HtB0] <;> iassumption
  iintro HO
  iapply (wp_tell m K c 1 _ (dev2_eq c) (by decide) (due2 c) W) $$ [HO HtB1 HlM1]
  · isplitr; · iexact HK
    isplitl [HO]; · iexact HO
    isplitl [HtB1] <;> iassumption
  iintro HO
  -- and both have told: their landing buffers are this device's to write
  iapply (wp_await m K c bar (wpE_semWait_eq 𝒱₀ (c : Thread nD τ) none Set.univ) ((by decide : _ = 2).trans (expect_bar m c).symm) (due2 c) W
    (gets_bar m c) (mayWait_due2 c)) $$ [HcB HO HpB]
  · isplitr; · iexact HK
    isplitr; · iexact HL
    isplitl [HcB]; · iexact HcB
    isplitl [HO] <;> iassumption
  unfold pay; dsimp only
  iintro ⟨HO, HzB, ⟨HlN0, -⟩, HlN1, -⟩
  -- the inputs are read, the partial product computed and its rounded copy stored
  iapply (wp_look c (xIn m c) (Memref.readAt_unit_zero (Elt F) cc0_stg0_0 zero3 _ (xIn m c))) $$ Hx; iintro Hx
  iapply (wp_look c (wqIn m c) (Memref.readAt_unit_zero (Elt F) cc0_stg1_0 zero2 _ (wqIn m c))) $$ Hwq; iintro Hwq
  iapply (wp_look c (cols c (wkIn m c)) rfl) $$ Hwk; iintro Hwk
  iapply (wp_look c (cols c (wvIn m c)) rfl) $$ Hwv; iintro Hwv
  iapply (wp_look c (woIn m c) (Memref.readAt_unit_zero (Elt F) cc0_stg2_0 zero2 _ (woIn m c))) $$ Hwo; iintro Hwo
  icases HoM0 with ⟨%X0, HoM0⟩
  iapply (wp_look c X0 (Memref.readAt_unit_zero (Elt F) cc0_scratch0 zero2 _ X0)) $$ HoM0; iintro HoM0
  iapply (wp_put c (M := Memref.whole cc0_scratch0) (r := Rect.unit (s := S256x1024) ![0, 0] S256x1024.size inb_S256x1024_S256x1024_0_0) (msg m 0 c) (fun f => (View.read_whole _ _).trans (Memref.write_access_unit_zero_univ (Elt F) cc0_scratch0 zero2 _ f _))) $$ [HoM0]
  · iexists X0; iexact HoM0
  iintro HoM0
  -- the first exchange
  iapply (wp_pass m K c 0 _ (dev3_eq c) rfl (due3 c) _) $$ [HoM0 HlN0 HO HtS0 HtR0]
  · isplitr; · iexact HK
    isplitl [HoM0]; · iexact HoM0
    isplitl [HlN0]; · iexact HlN0
    isplitl [HO]; · iexact HO
    isplitl [HtS0] <;> iassumption
  iintro ⟨HcS0, HO⟩
  iapply (wp_await m K c (snd 0) (u := (outM 0).view.dmaCredit) (wpE_waitDma2_eq 𝒱₀ (c : Thread nD τ) none Set.univ) (expect_some m c _).symm (due3 c) _
    (gets_some m c _) (mayWait_due3 c false)) $$ [HcS0 HO HpS0]
  · isplitr; · iexact HK
    isplitr; · iexact HL
    isplitl [HcS0]; · iexact HcS0
    isplitl [HO] <;> iassumption
  unfold pay; dsimp only
  iintro ⟨HO, HzS0, HoM0⟩
  iapply (wp_await m K c (rcv 0) (u := (landM 0).view.dmaCredit) (wpE_waitDma2_eq 𝒱₀ (c : Thread nD τ) none Set.univ) (expect_some m c _).symm (due3 c) _
    (gets_some m c _) (mayWait_due3 c true)) $$ [HcR0 HO HpR0]
  · isplitr; · iexact HK
    isplitr; · iexact HL
    isplitl [HcR0]; · iexact HcR0
    isplitl [HO] <;> iassumption
  unfold pay; dsimp only
  iintro ⟨HO, HzR0, HlM0⟩
  -- what arrived is added, and the sum's rounded copy stored
  iapply (wp_look c (msg m 0 (mate 0 c)) (Memref.readAt_unit_zero (Elt F) cc0_scratch1 zero2 _ (msg m 0 (mate 0 c)))) $$ HlM0; iintro HlM0
  iapply (wp_look c Xo1 (Memref.readAt_unit_zero (Elt F) cc0_scratch2 zero2 _ Xo1)) $$ HoM1; iintro HoM1
  iapply (wp_put c (M := Memref.whole cc0_scratch2) (r := Rect.unit (s := S256x1024) ![0, 0] S256x1024.size inb_S256x1024_S256x1024_0_0) (msg m 1 c) (fun f => (View.read_whole _ _).trans (Memref.write_access_unit_zero_univ (Elt F) cc0_scratch2 zero2 _ f _))) $$ [HoM1]
  · iexists Xo1; iexact HoM1
  iintro HoM1
  -- the second exchange
  iapply (wp_pass m K c 1 _ (dev4_eq c) rfl 0 _) $$ [HoM1 HlN1 HO HtS1 HtR1]
  · isplitr; · iexact HK
    isplitl [HoM1]; · iexact HoM1
    isplitl [HlN1]; · iexact HlN1
    isplitl [HO]; · rw [zero_add]; iexact HO
    isplitl [HtS1] <;> iassumption
  iintro ⟨HcS1, HO⟩
  iapply (wp_await m K c (snd 1) (u := (outM 1).view.dmaCredit) (wpE_waitDma2_eq 𝒱₀ (c : Thread nD τ) none Set.univ) (expect_some m c _).symm 0 _
    (gets_some m c _) (by rw [MayWait_zero]; iintro -; iempintro)) $$ [HcS1 HO HpS1]
  · isplitr; · iexact HK
    isplitr; · iexact HL
    isplitl [HcS1]; · iexact HcS1
    isplitl [HO] <;> iassumption
  unfold pay; dsimp only
  iintro ⟨HO, HzS1, HoM1⟩
  iapply (wp_await m K c (rcv 1) (u := (landM 1).view.dmaCredit) (wpE_waitDma2_eq 𝒱₀ (c : Thread nD τ) none Set.univ) (expect_some m c _).symm 0 _
    (gets_some m c _) (by rw [MayWait_zero]; iintro -; iempintro)) $$ [HcR1 HO HpR1]
  · isplitr; · iexact HK
    isplitr; · iexact HL
    isplitl [HcR1]; · iexact HcR1
    isplitl [HO] <;> iassumption
  unfold pay; dsimp only
  iintro ⟨HO, HzR1, HlM1⟩
  -- what arrived is added, and the result stored
  iapply (wp_look c (msg m 1 (mate 1 c)) (Memref.readAt_unit_zero (Elt F) cc0_scratch3 zero2 _ (msg m 1 (mate 1 c)))) $$ HlM1; iintro HlM1
  iapply (wp_look c Xo (Memref.readAt_unit_zero (Elt F) cc0_stg5_0 zero3 _ Xo)) $$ Hout; iintro Hout
  iapply (wp_put c (M := Memref.whole cc0_stg5_0) (r := Rect.unit (s := S1x256x1024) ![0, 0, 0] S1x256x1024.size inb_S1x256x1024_S1x256x1024_0_0_0) (result m c) (fun f => (View.read_whole _ _).trans (Memref.write_access_unit_zero_univ (Elt F) cc0_stg5_0 zero3 _ f _))) $$ [Hout]
  · iexists Xo; iexact Hout
  iintro Hout
  rw [wp_ret]; imodintro
  iapply Hk
  unfold over
  isplitl [HzB HzS0 HzS1 HzR0 HzR1 HoM0 HlM0 HoM1 HlM1]
  · isplitl [HzB HzS0 HzS1 HzR0 HzR1]
    · isplitl [HzB]; · iexact HzB
      isplitl [HzS0]; · iexact HzS0
      isplitl [HzS1]; · iexact HzS1
      isplitl [HzR0] <;> iassumption
    isplitl [HoM0]; · iexists _; iexact HoM0
    isplitl [HlM0]; · iexists _; iexact HlM0
    isplitl [HoM1]; · iexists _; iexact HoM1
    iexists _; iexact HlM1
  isplitl [HO]; · iexists _; iexact HO
  isplitl [Hx Hwq Hwo Hwk Hwv]
  · isplitl [Hx]; · iexact Hx
    isplitl [Hwq]; · iexact Hwq
    isplitl [Hwo]; · iexact Hwo
    isplitl [Hwk] <;> iassumption
  iexact Hout

end Cert.Butterfly

end
-- ==== Proof.Run.lean ====
/-
# The launch of the four devices

The protocol's ghost state is minted for all ports at once, the invariants are allocated for all devices under one
update, the right to pay a mate's duty is handed to the mate, and the run ends with every device's result stored,
every input as it was and every semaphore at zero.
-/
module

public import proofs.«01_k».proof.Proof.Body
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore zero, any generator registers. -/
def s₀ : MemSt nD τ sig (Elt F) := ⟨m, fun _ => 0, ρ⟩

/-! ## The pipeline's proof data -/

/-- What device `c` gets at launch, beside its scratch buffers. -/
def share_ (K : Dev nD × Port → ℕ) (c : Dev nD) : sProp 𝕄 :=
  iprop(known m K ∗ (place c bar ∗ place c (snd 0) ∗ place c (snd 1) ∗ place c (rcv 0) ∗ place c (rcv 1)) ∗ (dues c 0 ∗ dues c 1))
def credits (c : Dev nD) : sProp 𝕄 :=
  iprop(cred (tallyAt (cell c bar) () 2) ∗ cred (tallyAt (cell c (rcv 0)) () N) ∗ cred (tallyAt (cell c (rcv 1)) () N))
def begins (c : Dev nD) : sProp 𝕄 := iprop((∃ K, share_ m K c) ∗ credits c ∗ levAts tracked rank)
def scratch (c : Dev nD) : sProp 𝕄 := iprop(some_ c (outM 0) ∗ some_ c (landM 0) ∗ some_ c (outM 1) ∗ some_ c (landM 1))

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => wkIn m c
    | ⟨4, _⟩ => wvIn m c
    | ⟨5, _⟩ => result m c
  Φ t := match t with
    | ⟨0, _⟩ => iprop(begins m c ∗ scratch c)
    | ⟨_ + 1, _⟩ => over c
  q _ := fullShare
  owed t := match t with
    | ⟨0, _⟩ => due0 c
    | ⟨_ + 1, _⟩ => 0

set_option maxRecDepth 4000 in
/-- The body meets its obligation at its one grid point. -/
theorem body_ok (c : Dev nD) : BodyObligation (dats (F := F) m 0 c) (defs₀ (F := F)) 𝒱₀ () Set.univ := fun t => by
  rw [fin_N0 t, bigSep_W0, bigSep_W0]
  show iprop((begins m c ∗ scratch c) ∗ (dats m 0 c).owesAt () t0_0.castSucc
      ∗ (∃ d, has c (Memref.whole cc0_stg0_0) ((dats m 0 c).before (0 : Fin 6) t0_0 d))
      ∗ (∃ d, has c (Memref.whole cc0_stg1_0) ((dats m 0 c).before (1 : Fin 6) t0_0 d))
      ∗ (∃ d, has c (Memref.whole cc0_stg2_0) ((dats m 0 c).before (2 : Fin 6) t0_0 d))
      ∗ (∃ d, has c (Memref.whole cc0_stg3_0) ((dats m 0 c).before (3 : Fin 6) t0_0 d))
      ∗ (∃ d, has c (Memref.whole cc0_stg4_0) ((dats m 0 c).before (4 : Fin 6) t0_0 d))
      ∗ (∃ d, has c (Memref.whole cc0_stg5_0) ((dats m 0 c).before (5 : Fin 6) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5)
        (fun _ => iprop(over c ∗ (dats m 0 c).owesAt () t0_0.succ
          ∗ has c (Memref.whole cc0_stg0_0) (xIn m c) ∗ has c (Memref.whole cc0_stg1_0) (wqIn m c)
          ∗ has c (Memref.whole cc0_stg2_0) (woIn m c) ∗ has c (Memref.whole cc0_stg3_0) (wkIn m c)
          ∗ has c (Memref.whole cc0_stg4_0) (wvIn m c) ∗ has c (Memref.whole cc0_stg5_0) (result m c)))
  have b0 (d) : (dats m 0 c).before (0 : Fin 6) t0_0 d = xIn m c := by unfold Dat.before; rw [if_pos (fetch0_0 t0_0)]; rfl
  have b1 (d) : (dats m 0 c).before (1 : Fin 6) t0_0 d = wqIn m c := by unfold Dat.before; rw [if_pos (fetch0_1 t0_0)]; rfl
  have b2 (d) : (dats m 0 c).before (2 : Fin 6) t0_0 d = woIn m c := by unfold Dat.before; rw [if_pos (fetch0_2 t0_0)]; rfl
  have b3 (d) : (dats m 0 c).before (3 : Fin 6) t0_0 d = wkIn m c := by unfold Dat.before; rw [if_pos (fetch0_3 t0_0)]; rfl
  have b4 (d) : (dats m 0 c).before (4 : Fin 6) t0_0 d = wvIn m c := by unfold Dat.before; rw [if_pos (fetch0_4 t0_0)]; rfl
  simp only [b0, b1, b2, b3, b4]
  unfold begins share_ credits scratch Dat.owesAt Pipeline.owesWithin
  rw [show (dats m 0 c).owed t0_0.castSucc = due0 c from rfl, show (dats m 0 c).owed t0_0.succ = 0 from rfl]
  iintro ⟨⟨⟨⟨%K, #HK, Hp, Hd⟩, Hc, #HL⟩, Hs⟩, ⟨%W, %hW, HO⟩, ⟨%_, Hx⟩, ⟨%_, Hwq⟩, ⟨%_, Hwo⟩, ⟨%_, Hwk⟩, ⟨%_, Hwv⟩, ⟨%_, Hout⟩⟩
  iapply (body_runs m K c W)
  unfold ready inputs
  isplitl [Hp Hd Hc Hs]
  · isplitr; · iexact HK
    isplitr; · iexact HL
    isplitl [Hp]; · iexact Hp
    isplitl [Hd]; · iexact Hd
    isplitl [Hc] <;> iassumption
  isplitl [HO]; · iexact HO
  isplitl [Hx Hwq Hwo Hwk Hwv]
  · isplitl [Hx]; · iexact Hx
    isplitl [Hwq]; · iexact Hwq
    isplitl [Hwo]; · iexact Hwo
    isplitl [Hwk] <;> iassumption
  isplitl [Hout]; · iexists _; iexact Hout
  iintro ⟨Hov, ⟨%W', HO⟩, ⟨Hx, Hwq, Hwo, Hwk, Hwv⟩, Hout⟩
  isplitl [Hov]; · iexact Hov
  isplitl [HO]
  · iexists W'
    isplitr; · ipureintro; exact fun _ _ => Or.inl trivial
    iexact HO
  isplitl [Hx]; · iexact Hx
  isplitl [Hwq]; · iexact Hwq
  isplitl [Hwo]; · iexact Hwo
  isplitl [Hwk]; · iexact Hwk
  isplitl [Hwv] <;> iassumption

/-! ## The launch element -/

/-- The kernel's own semaphores: every port but the barrier. -/
abbrev osem : Fin 4 → SemLoc sig := fun | 0 => sem (snd 0) | 1 => sem (snd 1) | 2 => sem (rcv 0) | 3 => sem (rcv 1)
theorem osem_facts : Pipeline.OwnSemFacts cfg0.spec osem := by decide

def ports : Finset (GSem nD τ sig) :=
  Finset.univ.map ⟨fun q : Dev nD × Port => cell q.1 q.2, fun q q' h => Prod.ext (cell_inj h).1 (cell_inj h).2⟩

/-- A device's duties, one of three kinds for each step: its barrier's, its departure's, its arrival's. -/
abbrev dutyOf (x : Dev nD × Fin 2 × Fin 3) : GSem nD τ sig × ℕ × Fin 2 := match x.2.2 with
  | 0 => (cell x.1 bar, 0, x.2.1)
  | 1 => (cell x.1 (snd x.2.1), 0, 0)
  | 2 => (cell x.1 (rcv x.2.1), 0, 0)
theorem dutyOf_inj : Function.Injective dutyOf := by
  rintro ⟨c, e, j⟩ ⟨c', e', j'⟩ h
  fin_cases j <;> fin_cases j' <;>
    (have h₁ := cell_inj (congrArg Prod.fst h)
     have h₂ := congrArg (fun x => x.2.2) h
     obtain ⟨rfl, hp⟩ := h₁
     simp_all [dutyOf, snd, rcv, bar])
def duties_ : Finset (GSem nD τ sig × ℕ × Fin 2) := Finset.univ.map ⟨dutyOf, dutyOf_inj⟩

def u₀ : UU := (initOf (Pipeline.cells cfgs cellOf_inj) (Pipeline.launchToks cfgs cellOf_inj), initOf ports duties_)

/-- The duties of a device's own ports in step `e`. -/
def minted (c : Dev nD) (e : Fin 2) : sProp 𝕄 :=
  iprop(dutyTok EX (cell c bar) 0 e ∗ dutyTok EX (cell c (snd e)) 0 0 ∗ dutyTok EX (cell c (rcv e)) 0 0)

/-- What the launch element gives device `c`. -/
def dealt (c : Dev nD) : sProp 𝕄 :=
  iprop((bigSep Finset.univ fun p : Port => roundState EX (plan m) (cell c p) 0)
    ∗ (bigSep Finset.univ fun p : Port => place c p) ∗ (bigSep Finset.univ fun p : Port => reached EX (cell c p) 0)
    ∗ bigSep Finset.univ fun e : Fin 2 => minted c e)

theorem fund_plan : BI.own (EX (initOf ports duties_)) ⊢ (|==> bigSep Finset.univ (dealt m) : sProp 𝕄) := by
  have hP (Φ : GSem nD τ sig → sProp 𝕄) :
      bigSep ports Φ = bigSep Finset.univ fun c : Dev nD => bigSep Finset.univ fun p : Port => Φ (cell c p) := by
    unfold ports; rw [bigSep_map, bigSep_univ_prod]; rfl
  have hD : bigSep duties_ (fun x => (dutyTok EX x.1 x.2.1 x.2.2 : sProp 𝕄))
      = bigSep Finset.univ fun c : Dev nD => bigSep Finset.univ fun e : Fin 2 => minted c e := by
    unfold duties_; rw [bigSep_map, bigSep_univ_prod]
    refine bigSep_congr fun c _ => ?_
    rw [bigSep_univ_prod]
    refine bigSep_congr fun e _ => ?_
    rw [bigSep_univ_eq_bigSepL [0, 1, 2] (by decide) (by decide)]
    rfl
  iintro H
  imod (Rounds.fund EX (plan m) ports duties_) $$ H with ⟨Hst, Hr, Hat, Htok⟩
  imodintro
  ihave Hst := (Entails.of_eq (hP fun g => roundState EX (plan m) g 0)) $$ Hst
  ihave Hat := (Entails.of_eq (hP fun g => atPos EX g 0 ∅ 0)) $$ Hat
  ihave Hr := (Entails.of_eq (hP fun g => reached EX g 0)) $$ Hr
  ihave Htok := (Entails.of_eq hD) $$ Htok
  unfold dealt; simp only [bigSep_sep']
  isplitl [Hst]; · iexact Hst
  isplitl [Hat]; · iexact Hat
  isplitl [Hr] <;> iassumption

/-! ## The invariants, for all devices at once -/

theorem own_eq (c : Dev nD) : (Pipeline.ownSems0 (Ix := Unit) (Name := ℕ) (U := UU) (Lvl := ℕ) (Val := Elt F) (τ := τ) osem c : sProp 𝕄)
    = iprop(idle c (snd 0) ∗ idle c (snd 1) ∗ idle c (rcv 0) ∗ idle c (rcv 1)) := by
  rw [Pipeline.ownSems0_eq_of_list c osem [0, 1, 2, 3] (by decide) (by decide)]; rfl
theorem unscoped_eq (c : Dev nD) : (unscopedSems0 c : sProp 𝕄) = idle c bar := by
  unfold unscopedSems0; rw [bigSep_eq_bigSepL_of_eq [sem bar] (by decide) (by decide)]; rfl

theorem bigSep_port (Φ : Port → sProp 𝕄) :
    bigSep Finset.univ Φ = iprop(Φ bar ∗ Φ (snd 0) ∗ Φ (snd 1) ∗ Φ (rcv 0) ∗ Φ (rcv 1)) :=
  bigSep_univ_eq_bigSepL [bar, snd 0, snd 1, rcv 0, rcv 1] (by decide) (by decide) Φ
theorem bigSep_step (Φ : Fin 2 → sProp 𝕄) : bigSep Finset.univ Φ = iprop(Φ 0 ∗ Φ 1) :=
  bigSep_univ_eq_bigSepL [0, 1] (by decide) (by decide) Φ

theorem alloc_one (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun p : Port => iprop(∃ κ : ℕ, cellInv EX (plan m) κ (cell c p)))
          ∗ (bigSep Finset.univ fun p : Port => place c p) ∗ (bigSep Finset.univ fun p : Port => reached EX (cell c p) 0)
          ∗ bigSep Finset.univ fun e : Fin 2 => minted c e) := by
  have hinv : iprop((bigSep Finset.univ fun p : Port => idle c p) ∗ bigSep Finset.univ fun p : Port => roundState EX (plan m) (cell c p) 0)
      ⊢ (|={Set.univ}=> bigSep Finset.univ fun p : Port => iprop(∃ κ : ℕ, cellInv EX (plan m) κ (cell c p)) : sProp 𝕄) := by
    rw [← bigSep_sep']
    exact (bigSep_mono fun p _ => (Rounds.body_intro EX (plan m) (cell c p)).trans inv_alloc).trans (bigSep_fupd _ _)
  unfold dealt
  iintro ⟨Ho, Hu, Hst, Hrest⟩
  ihave Ho := (Entails.of_eq (own_eq c)) $$ Ho
  ihave Hu := (Entails.of_eq (unscoped_eq c)) $$ Hu
  imod hinv $$ [Ho Hu Hst] with Hi
  · isplitl [Ho Hu]
    · iapply (Entails.of_eq (bigSep_port (fun p : Port => (idle c p : sProp 𝕄))).symm)
      isplitl [Hu] <;> iassumption
    iexact Hst
  imodintro
  isplitl [Hi] <;> iassumption

/-- The duties dealt out: a device's barrier and arrival duties of a step go to its mate of the step. -/
theorem deal : (bigSep Finset.univ fun c : Dev nD => bigSep Finset.univ fun e : Fin 2 => (minted c e : sProp 𝕄))
    ⊢ bigSep Finset.univ fun c : Dev nD => iprop(dues c 0 ∗ dues c 1) := by
  have h (e : Fin 2) : (bigSep Finset.univ fun c : Dev nD => (minted c e : sProp 𝕄)) ⊢ bigSep Finset.univ fun c : Dev nD => dues c e := by
    unfold minted dues
    simp only [bigSep_sep']
    rw [bigSep_univ_equiv (flip e) (fun c : Dev nD => (dutyTok EX (cell c bar) 0 e : sProp 𝕄)),
      bigSep_univ_equiv (flip e) (fun c : Dev nD => (dutyTok EX (cell c (rcv e)) 0 0 : sProp 𝕄))]
    exact .rfl
  simp only [bigSep_step, bigSep_sep']
  exact BI.sep_mono (h 0) (h 1)

/-- What a device takes from the launch. -/
def gets (c : Dev nD) : sProp 𝕄 := iprop(∃ K, share_ m K c)

theorem gets_intro (K : Dev nD × Port → ℕ) (c : Dev nD) :
    iprop(known m K ∗ ((bigSep Finset.univ fun p : Port => place c p) ∗ dues c 0 ∗ dues c 1)) ⊢ gets m c := by
  rw [bigSep_port]
  unfold gets share_
  iintro ⟨#HK, Hp, Hd⟩
  iexists K
  isplitr; · iexact HK
  isplitl [Hp] <;> iassumption

theorem with_known (K : Dev nD × Port → ℕ) (Φ : Dev nD → sProp 𝕄) (h : ∀ c, iprop(known m K ∗ Φ c) ⊢ gets m c) :
    iprop(known m K ∗ bigSep Finset.univ Φ) ⊢ bigSep Finset.univ (gets m) :=
  (sep_mono_left (BI.bigSep_of_persistent Finset.univ (known m K))).trans
    ((Entails.of_eq (bigSep_sep' Finset.univ (fun _ => known m K) Φ).symm).trans (bigSep_mono fun c _ => h c))

theorem alloc_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (gets m) := by
  refine ((bigSep_mono fun c _ => alloc_one m c).trans (bigSep_fupd _ _)).trans (BI.fupd_mono (show _ ⊢ (bigSep Finset.univ (gets m) : sProp 𝕄) from ?_))
  simp only [bigSep_sep']
  rw [← bigSep_univ_prod (fun q : Dev nD × Port => iprop(∃ κ : ℕ, cellInv EX (plan m) κ (cell q.1 q.2))),
    ← bigSep_univ_prod (fun q : Dev nD × Port => (reached EX (cell q.1 q.2) 0 : sProp 𝕄))]
  iintro ⟨HI, Hp, #HR, Ht⟩
  ihave HI := (BI.bigSep_exists_pi Finset.univ (fun (q : Dev nD × Port) (κ : ℕ) => (cellInv EX (plan m) κ (cell q.1 q.2) : sProp 𝕄))) $$ HI
  icases HI with ⟨%K, #HI⟩
  ihave Ht := (deal (F := F)) $$ Ht
  iapply (with_known m K _ (gets_intro m K))
  isplitr
  · unfold known; isplitr; · iexact HI
    iexact HR
  · iapply (Entails.of_eq (bigSep_sep' Finset.univ (fun c : Dev nD => bigSep Finset.univ fun p : Port => (place c p : sProp 𝕄)) (fun c => iprop(dues c 0 ∗ dues c 1))).symm)
    isplitl [Hp] <;> iassumption

/-! ## The credits -/

theorem credits_intro (c : Dev nD) : (Pipeline.launchCred due0 c : sProp 𝕄) ⊢ credits c := by
  have h (p : Port) (e : Fin 2) (n : ℕ) := Pipeline.launchCred_tallyAt (τ := τ) (Name := ℕ) (U := UU) (Lvl := ℕ) (Val := Elt F) (sem p) (mate e) (mate e) (mate_mate e) (mate_mate e) () n c
  unfold due0 due1 due2 due3 credits
  rw [Pipeline.launchCred_add, Pipeline.launchCred_add, Pipeline.launchCred_add]
  iintro ⟨⟨⟨H1, H0⟩, HB1⟩, HB0⟩
  ihave H1 := (h (rcv 1) 1 N) $$ H1
  ihave H0 := (h (rcv 0) 0 N) $$ H0
  ihave HB1 := (h bar 1 1) $$ HB1
  ihave HB0 := (h bar 0 1) $$ HB0
  isplitl [HB0 HB1]
  · rw [show (tallyAt (cell c bar) () 2 : CellTallies nD τ sig Unit) = tallyAt (cell c bar) () 1 + tallyAt (cell c bar) () 1 from (tallyAt_add (cell c bar) () 1 1).symm]
    iapply (cred_add _ _).2
    isplitl [HB0] <;> iassumption
  isplitl [H0] <;> iassumption

/-! ## The side conditions of the launch -/

theorem begins_intro (c : Dev nD) :
    iprop(Pipeline.unscopedRestP Pipeline.Prefetch.none cfg0.spec c (fun b => m ((c : Thread nD τ).loc b)) ∗ levAts tracked rank
        ∗ Pipeline.launchCred due0 c ∗ prngReg c (ρ c) ∗ gets m c)
      ⊢ |={Set.univ}=> iprop(begins m c ∗ emp) := by
  iintro ⟨-, HL, Hc, -, HG⟩
  ihave Hc := (credits_intro (F := F) c) $$ Hc
  imodintro
  unfold begins gets
  isplitl
  · isplitl [HG]; · iexact HG
    isplitl [Hc] <;> iassumption
  · iempintro

theorem scratch_eq (c : Dev nD) : (Pipeline.scopedRest cfg0.spec c : sProp 𝕄) = scratch c := by
  rw [scopedRest0_eq]
  unfold scratch some_ has
  simp only [outM, landM, owns_whole]
  rfl

theorem enters (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(begins m c ∗ scratch c) from rfl, scratch_eq]
  iintro ⟨Hb, -, Hs⟩
  isplitl [Hb] <;> iassumption

theorem leaves (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = over c from rfl, scratch_eq, own_eq, unscoped_eq]
  unfold over scratch
  iintro ⟨⟨HB, Hz⟩, Hs⟩
  isplitl [HB]; · iexact HB
  isplitl [Hz] <;> iassumption

theorem waits_ok (c : Dev nD) : (levAts tracked rank : sProp 𝕄) ⊢ Pipeline.cellsWaits cfgs (dats m) () 0 c :=
  Pipeline.cellsWaits_intro cfgs (dats m) () 0 c fun w s t => by
    rcases t with ⟨_ | _, ht⟩
    · exact mayWait_due0 c _ (by fin_cases w <;> fin_cases s <;> decide +kernel)
    · exact (show (levAts tracked rank : sProp 𝕄) ⊢ MayWait (c : Thread nD τ) _ () 0 from by rw [MayWait_zero]; iintro -; iempintro)

/-! ## The run -/

def endA (c : Dev nD) (w : Fin cfg0.W) : Buf (Elt F) ((cfg0.win w).arr.view.loc (c : Thread nD τ)) := (dats m 0 c).arrAt w cfg0.N

set_option maxRecDepth 8000 in
/-- From any memory with zero counters, for any float values: every fair run of the four devices ends, and at its end
    every window's array is at the contents the proof data names and every semaphore is at zero. -/
theorem run_main : θ_run defs (onTc (τ := τ) (main (F := F))) (s₀ m ρ) (fun r =>
    (∀ (c : Dev nD) (w : Fin cfg0.W), r.2.mem ((cfg0.win w).arr.view.loc (c : Thread nD τ)) = endA m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_ok m) (hne := fun w => by fin_cases w <;> exact Nat.succ_pos _) (harr := arr_whole0) (hstage := stage_whole0)
    (hshare := fun c w => by unfold Dat.share; split <;> rfl)
    (hdistinct := winFacts0.arr_inj)
    (O₀ := due0) (howed₀ := fun _ => rfl) (howedN := fun _ => rfl)
    (L := tracked) (lv := rank) (hL := tracked_of_ne) (hwaits := waits_ok m)
    (G := dealt m) (G' := gets m) (u₀ := u₀)
    (hu₀ := by
      unfold u₀
      iintro Hu
      ihave H := (ownU_pair _ _) $$ Hu
      icases H with ⟨HP, HX⟩
      imod (fund_plan m) $$ HX with HG
      imodintro
      isplitl [HP] <;> iassumption)
    (hglob := alloc_all m)
    (hA := fun _ _ => rfl) (hpf := fun _ k => k.elim0)
    (X := begins m) (Y := fun c => unscopedSems0 c) (Z := fun _ => iprop(emp))
    (hX := begins_intro m ρ) (hin := enters m) (hout := leaves m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds at the end what it held at the start. -/
theorem endA_in (c : Dev nD) (w : Fin cfg0.W) (h : (cfg0.win w).isOut = false) :
    endA m c w = m ((cfg0.win w).arr.view.loc (c : Thread nD τ)) :=
  (dats (F := F) m 0 c).arrAt_in w h _

end Cert.Butterfly

end
-- ==== Proof.Frames.lean ====
/-
# The frames

Read off the run of the four devices, proved once for any float values: every fair execution ends, every argument array
holds what it held, every semaphore is at zero. The reference is host operations alone and has no semaphore.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Pre_finite_scores_KernelIdeal

open Idealize.ShloMosaic

/-- The side conditions of the precondition's operations, at one device's shapes. -/
instance sides : Facts where
  bcast_S_S1x256x1024 := by decide
  reducesTo_S1x256x1024_S_d0_1_2 := by decide
  h_S_ := by decide
  bcast_S_S1024x1024 := by decide
  reducesTo_S1024x1024_S_d0_1 := by decide

end Cert.Pre_finite_scores_KernelIdeal

namespace Cert.Pre_finite_scores_ReferenceIdeal

open Idealize.ShloMosaic

/-- The side conditions of the precondition's operations, at the whole arrays' shapes. -/
instance sides : Facts where
  bcast_S_S1x256x1024 := by decide
  reducesTo_S1x256x1024_S_d0_1_2 := by decide
  h_S_ := by decide
  bcast_S_S1024x4096 := by decide
  reducesTo_S1024x4096_S_d0_1 := by decide
  bcast_S_S1024x1024 := by decide
  reducesTo_S1024x1024_S_d0_1 := by decide

end Cert.Pre_finite_scores_ReferenceIdeal

namespace Cert.Butterfly

open Cert.KernelIdeal Cert.KernelIdeal.Gen
open Idealize.ShloMosaic Idealize.ShloMosaic.TcCoe Idealize.SL.Sem

variable {F : FTy → Type} [FloatOps F]

/-- Every fair run of the kernel, for any float values: each device's result array ends at the contents the proof data
    names, its arguments end unchanged, and every semaphore ends at zero. -/
theorem run_ends (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_v1) = endA m c 5
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨fun c =>
      ⟨h.1 c 5, (h.1 c 0).trans (endA_in m c 0 rfl), (h.1 c 1).trans (endA_in m c 1 rfl),
        (h.1 c 2).trans (endA_in m c 2 rfl), (h.1 c 3).trans (endA_in m c 3 rfl), (h.1 c 4).trans (endA_in m c 4 rfl)⟩, h.2⟩)
    (run_main m ρ)

/-- Every fair run of the kernel, for any float values, keeps the arguments and leaves every semaphore at zero. -/
theorem run_keeps (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_ends m ρ)

/-- The body tables of the two printings of the kernel, as given and as read at extended reals, are one table. -/
theorem same_bodies : Cert.Kernel.defs₀ (F := F) = Cert.KernelIdeal.defs₀ (F := F) := by
  funext p l x
  cases p with
  | tc =>
    match l, x with
    | 0, (t, s) => rfl
  | scScalar _ => rfl
  | scVector _ _ => rfl

/-- So are the tables with the pipeline's own labels added. -/
theorem same_table : Cert.Kernel.defs (F := F) = Cert.KernelIdeal.defs (F := F) :=
  congrArg (Pipeline.defs Cert.Kernel.pcfgs) same_bodies

/-- The kernel on machine words runs, keeps its arguments and leaves every semaphore at zero. -/
theorem frame_kernel : Cert.quiescent_Kernel := fun m ρ _ => by
  rw [same_table]
  exact run_keeps (F := Bits) m ρ

/-- The kernel on extended reals runs, keeps its arguments and leaves every semaphore at zero. -/
theorem frame_ideal : Cert.quiescent_KernelIdeal := fun m ρ _ => run_keeps (F := Ideal) m ρ

/-- The same from the memories that meet the precondition. -/
theorem frame_ideal_pre : Cert.quiescent_KernelIdeal_pre_finite_scores_KernelIdeal := fun m ρ _ => frame_ideal m ρ trivial

/-- The reference runs and keeps its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that meet the precondition. -/
theorem frame_reference_pre : Cert.quiescent_ReferenceIdeal_pre_finite_scores_ReferenceIdeal :=
  fun m ρ _ => frame_reference m ρ trivial

end Cert.Butterfly

end
-- ==== Proof.Arrays.lean ====
/-
# Blocks that are whole arrays

Each window's one block is its whole array: what the kernel loads is the argument array, and what it leaves is the result.
-/
module

public import proofs.«01_k».proof.Proof.Frames
public import Idealize.ShloMosaic.Lib.Pipeline.Value

@[expose] public section

noncomputable section

namespace Cert.Butterfly

open Cert.KernelIdeal Cert.KernelIdeal.Gen
open Idealize.ShloMosaic Idealize.ShloMosaic.TcCoe
open Idealize.ShloMosaic.Pipeline

variable {F : FTy → Type} [FloatOps F] (m : (ℓ : Loc nD τ sig) → Buf (Elt F) ℓ) (c : Dev nD)

/-- Every window's block starts at the origin. -/
theorem at_origin (w : Fin cfg0.W) (a) : (cfg0.win w).index t0_0 a = 0 := by
  revert a; fin_cases w <;> decide

/-- An entry of a block lies at the same place in the array. -/
theorem block_place (w : Fin cfg0.W) (y : ((cfg0.win w).xblock (cfg0.grid.coords t0_0)).Idx) (a) :
    (((cfg0.win w).rect t0_0).emb y a : Nat) = y a :=
  (cfg0.win w).rect_emb_val_of_index_zero t0_0 a (at_origin w a) y

theorem xIn_eq : xIn m c = m ((c : Thread nD τ).loc main_arg0) :=
  funext fun y => congrArg (m ((c : Thread nD τ).loc main_arg0)) (funext fun a => Fin.ext (block_place 0 y a))
theorem wqIn_eq : wqIn m c = m ((c : Thread nD τ).loc main_arg1) :=
  funext fun y => congrArg (m ((c : Thread nD τ).loc main_arg1)) (funext fun a => Fin.ext (block_place 1 y a))
theorem woIn_eq : woIn m c = m ((c : Thread nD τ).loc main_arg2) :=
  funext fun y => congrArg (m ((c : Thread nD τ).loc main_arg2)) (funext fun a => Fin.ext (block_place 2 y a))
theorem wkIn_eq : wkIn m c = m ((c : Thread nD τ).loc main_arg3) :=
  funext fun y => congrArg (m ((c : Thread nD τ).loc main_arg3)) (funext fun a => Fin.ext (block_place 3 y a))
theorem wvIn_eq : wvIn m c = m ((c : Thread nD τ).loc main_arg4) :=
  funext fun y => congrArg (m ((c : Thread nD τ).loc main_arg4)) (funext fun a => Fin.ext (block_place 4 y a))

/-- The result array after the launch is what the body left in the buffer. -/
theorem endA_out : endA m c (5 : Fin 6) = result m c := by
  have h : (win0_5.blk t0_0).view.read (Elt F) (endA m c (5 : Fin 6)) = result m c := by
    unfold endA
    rw [show cfg0.N = (t0_0 : Fin cfg0.N).val + 1 from rfl, (dats m 0 c).arrAt_succ (5 : Fin 6) t0_0,
      show (cfg0.win (5 : Fin 6)).flush t0_0 = true from by decide, if_pos rfl]
    exact View.read_write_univ _ _
  rw [← h]
  exact funext fun y => (congrArg (endA m c (5 : Fin 6)) (funext fun a => Fin.ext (block_place 5 y a))).symm

end Cert.Butterfly

end
-- ==== Proof.Finite.lean ====
/-
# What the precondition says of an entry

An entry whose absolute value compares below plus infinity is a real number; the precondition says it of every entry of
`x`, `Wq` and `Wk`.
-/
module

public import proofs.«01_k».proof.Proof.Frames
public import Idealize.ShloMosaic.Lib.Pointwise
public import Idealize.ShloMosaic.Lib.ReduceAll

@[expose] public section

noncomputable section

namespace Cert.Butterfly

open Idealize.ShloMosaic

/-- An extended real that is a real number. -/
def Real' (a : EReal) : Prop := ∃ r : ℝ, a = (r : EReal)

theorem Real'.of_ne {a : EReal} (hb : a ≠ ⊥) (ht : a ≠ ⊤) : Real' a := ⟨a.toReal, (EReal.coe_toReal ht hb).symm⟩

/-- Products of real numbers are real numbers. -/
theorem Real'.mul {a b : EReal} : Real' a → Real' b → Real' (a * b)
  | ⟨x, hx⟩, ⟨y, hy⟩ => ⟨x * y, by rw [hx, hy, EReal.coe_mul]⟩

/-- Sums of real numbers are real numbers. -/
theorem Real'.add {a b : EReal} : Real' a → Real' b → Real' (a + b)
  | ⟨x, hx⟩, ⟨y, hy⟩ => ⟨x + y, by rw [hx, hy, EReal.coe_add]⟩

/-- A finite sum of real numbers is a real number. -/
theorem Real'.sum {ι : Type} (s : Finset ι) {f : ι → EReal} (h : ∀ i, Real' (f i)) : Real' (∑ i ∈ s, f i) := by
  classical
  induction s using Finset.induction_on with
  | empty => exact ⟨0, by simp⟩
  | insert i s hi ih => rw [Finset.sum_insert hi]; exact (h i).add ih

/-- The word of plus infinity is plus infinity. -/
theorem top_word : (Ideal.ofBits .bf16 0x7F80#16 : EReal) = ⊤ := by
  simp [Ideal.ofBits, Ideal.ieee]

/-- An entry whose absolute value compares below plus infinity is a real number. -/
theorem real_of_below (a : EReal) (h : Ideal.cmp .olt (max a (-a)) ⊤ = 1#1) : Real' a := by
  have h' : max a (-a) < ⊤ := by
    by_contra hn
    simp [Ideal.cmp, hn] at h
  refine .of_ne (fun e => ?_) (fun e => ?_)
  · subst e; simp at h'
  · subst e; simp at h'

instance : Subsingleton Cert.Pre_finite_scores_KernelIdeal.S_.Idx := ⟨fun a b => funext fun k => k.elim0⟩

section
open Cert.KernelIdeal Idealize.ShloMosaic.TcCoe

/-- Under the precondition every entry of a device's tokens, queries' weight and keys' weight is a real number. -/
theorem finite_entries (m : (ℓ : Loc nD τ sig) → Buf (Elt Ideal) ℓ)
    (h : Cert.Pre_KernelIdeal_finite_scores_KernelIdeal m) (c : Dev nD) :
    (∀ i, Real' (m ((c : Thread nD τ).loc main_arg0) i)) ∧ (∀ i, Real' (m ((c : Thread nD τ).loc main_arg1) i))
      ∧ ∀ i, Real' (m ((c : Thread nD τ).loc main_arg3) i) := by
  have e := congrFun (h c) (fun k => k.elim0)
  unfold Cert.Pre_finite_scores_KernelIdeal.fn at e
  obtain ⟨e, e3⟩ := IntOp.andi_eq_one.mp e
  obtain ⟨e0, e1⟩ := IntOp.andi_eq_one.mp e
  refine ⟨fun i => real_of_below _ ?_, fun i => real_of_below _ ?_, fun i => real_of_below _ ?_⟩ <;> rw [← top_word]
  · exact Host.reduce_andi_all _ _ _ _ _ e0 i
  · exact Host.reduce_andi_all _ _ _ _ _ e1 i
  · exact Host.reduce_andi_all _ _ _ _ _ e3 i
end

end Cert.Butterfly

end
-- ==== Proof.Softmax.lean ====
/-
# The softmax over the extended reals, in both orders

The kernel divides each weight by the row's mass and then sums the weighted values; the reference sums first and divides
once. On a row of real scores the mass is a positive real number, so the two agree whatever the values are.
-/
module

public import proofs.«01_k».proof.Proof.Finite

@[expose] public section

noncomputable section

namespace Cert.Butterfly

open Idealize.ShloMosaic

/-- Minus infinity, as the programs write it. -/
def low : EReal := Ideal.ofBits .f32 0xFF800000#32
/-- The scale of the scores, as the programs write it. -/
def scale : EReal := Ideal.ofBits .f32 0x3DB504F3#32

theorem low_eq : low = ⊥ := by simp [low, Ideal.ofBits, Ideal.ieee]

/-- The scale is a real number. -/
theorem scale_real : Real' scale := by
  refine ⟨11863283 * ((2 : ℝ) ^ 27)⁻¹, ?_⟩
  rw [EReal.coe_mul]
  simp [scale, Ideal.ofBits, Ideal.ieee]

/-- A row's greatest score. -/
def top (s : Fin 256 → EReal) : EReal := Finset.univ.fold max low s
/-- The weight of score `j`. -/
def wt (s : Fin 256 → EReal) (j : Fin 256) : EReal := Ideal.exp (s j - top s)
/-- The sum of a row's weights. -/
def mass (s : Fin 256 → EReal) : EReal := ∑ j, wt s j
/-- The attention on a row: the values, each by its weight's share of the mass. -/
def mix (s v : Fin 256 → EReal) : EReal := ∑ j, Ideal.div (wt s j) (mass s) * v j

/-- The greatest of a row of real numbers is a real number. -/
theorem top_real {s : Fin 256 → EReal} (h : ∀ j, Real' (s j)) : Real' (top s) := by
  refine .of_ne (ne_of_gt ?_) (ne_of_lt ?_)
  · refine (Finset.lt_fold_max _).mpr (.inr ⟨0, Finset.mem_univ _, ?_⟩)
    obtain ⟨r, hr⟩ := h 0
    rw [hr]; exact EReal.bot_lt_coe r
  · refine (Finset.fold_max_lt _).mpr ⟨by rw [low_eq]; exact bot_lt_top, fun j _ => ?_⟩
    obtain ⟨r, hr⟩ := h j
    rw [hr]; exact EReal.coe_lt_top r

/-- A weight is a positive real number. -/
theorem wt_pos {s : Fin 256 → EReal} (h : ∀ j, Real' (s j)) (j : Fin 256) : ∃ r : ℝ, 0 < r ∧ wt s j = (r : EReal) := by
  obtain ⟨t, ht⟩ := top_real h
  obtain ⟨r, hr⟩ := h j
  refine ⟨Real.exp (r - t), Real.exp_pos _, ?_⟩
  rw [wt, ht, hr, ← EReal.coe_sub, Ideal.exp_coe]

/-- The mass is a positive real number. -/
theorem mass_pos {s : Fin 256 → EReal} (h : ∀ j, Real' (s j)) : ∃ r : ℝ, 0 < r ∧ mass s = (r : EReal) := by
  choose w hw hs using wt_pos h
  refine ⟨∑ j, w j, Finset.sum_pos (fun j _ => hw j) ⟨0, Finset.mem_univ _⟩, ?_⟩
  rw [mass, Finset.sum_congr rfl fun j _ => hs j]
  exact (map_sum (⟨⟨Real.toEReal, EReal.coe_zero⟩, EReal.coe_add⟩ : ℝ →+ EReal) w Finset.univ).symm

/-- A sum times a real number that is not negative is the sum of the products, whatever the summands. -/
theorem sum_times {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert i S hi ih =>
    rw [Finset.sum_insert hi, Finset.sum_insert hi,
      EReal.right_distrib_of_nonneg_of_ne_top (EReal.coe_nonneg.mpr hr) (EReal.coe_ne_top r), ih]

/-- Summing first and dividing once gives the attention, on a row of real scores; what stood before the one step counts
    for nothing, being multiplied into zero. -/
theorem mix_eq {s : Fin 256 → EReal} (h : ∀ j, Real' (s j)) (v : Fin 256 → EReal) (a b : EReal) :
    Ideal.div (0 * a + ∑ j, v j * wt s j) (0 * b + mass s) = mix s v := by
  obtain ⟨r, hr, hm⟩ := mass_pos h
  rw [zero_mul, zero_mul, zero_add, zero_add, mix, hm, Ideal.div_coe hr.ne',
    sum_times _ _ (one_div_pos.mpr hr).le]
  refine Finset.sum_congr rfl fun j _ => ?_
  rw [Ideal.div_coe hr.ne', mul_comm (v j), mul_right_comm]

end Cert.Butterfly

end
-- ==== Proof.KernelValue.lean ====
/-
# The kernel's partial product at an index
-/
module

public import proofs.«01_k».proof.Proof.Protocol
public import proofs.«01_k».proof.Proof.Softmax

@[expose] public section

noncomputable section

namespace Cert.Butterfly

open Cert.KernelIdeal Cert.KernelIdeal.Gen
open Idealize.ShloMosaic

/-- A row's shares: the exponentials of its entries less their greatest, over the sum of those exponentials. -/
def shares (s : FVec Ideal S1024x256 .f32) : FVec Ideal S1024x256 .f32 :=
  let t : FVec Ideal S1024x256 .f32 := mulf s (broadcast S1024x256 (Scalar.ofBits .f32 0x3DB504F3#32))
  let e : FVec Ideal S1024x256 .f32 := exp (subf t (broadcastTo S1024x256 (shapeCast S1024x1
    (multiReduction .maximumf [1] S1024 t 0xFF800000#32 reduces_S1024x256_S1024 (.inl rfl) rfl) shapeCasts_S1024_S1024x1) broadcasts_S1024x1_S1024x256))
  divf e (broadcastTo S1024x256 (shapeCast S1024x1
    (multiReduction .add [1] S1024 e 0x00000000#32 reduces_S1024x256_S1024 (.inl rfl) rfl) shapeCasts_S1024_S1024x1) broadcasts_S1024x1_S1024x256)

/-- One group of four heads: the shares of its scores times its values, the heads laid side by side. -/
def group (s : FVec Ideal S1024x256 .f32) (v : FVec Ideal S256x128 .bf16) : FVec Ideal S256x512 .f32 :=
  shapeCast S256x512 (matmul dot_S1024x256_S256x128_S1024x128_1_0_0_1_n_n none (truncf .bf16 (shares s) bitsLt_bf16_f32) v
    (constant S1024x128 .f32 0x00000000#32)) shapeCasts_S1024x128_S256x512

/-- The scores of the second group. -/
def scores1 (q : FVec Ideal S256x1024 .bf16) (k : FVec Ideal S256x256 .bf16) : FVec Ideal S1024x256 .f32 :=
  matmul dot_S1024x128_S256x128_S1024x256_1_1_0_0_n_n none
    (shapeCast S1024x128 (extractStridedSlice S256x512 ![0, 512] q slices_S256x1024_o0_512_S256x512) shapeCasts_S256x512_S1024x128)
    (extractStridedSlice S256x128 ![0, 128] k slices_S256x256_o0_128_S256x128) (constant S1024x256 .f32 0x00000000#32)

/-- The values of the second group. -/
def values1 (v : FVec Ideal S256x256 .bf16) : FVec Ideal S256x128 .bf16 :=
  extractStridedSlice S256x128 ![0, 128] v slices_S256x256_o0_128_S256x128

/-- The partial product is the two groups side by side times the block of the output weight. -/
theorem pay8_eq (q : FVec Ideal S256x1024 .bf16) (k v : FVec Ideal S256x256 .bf16) (v0 : FVec Ideal S256x128 .bf16)
    (s0 : FVec Ideal S1024x256 .f32) (wo : FVec Ideal S1024x1024 .bf16) :
    k0_pay8 q k v v0 s0 wo = matmul dot_S256x1024_S1024x1024_S256x1024_1_0_0_1_n_n none
      (truncf .bf16 (concatenate S256x1024 1 [⟨S256x512, group s0 v0⟩, ⟨S256x512, group (scores1 q k) (values1 v)⟩]
        concatenates_S256x512_S256x512_S256x1024_d1) bitsLt_bf16_f32)
      (shapeCast S1024x1024 wo shapeCasts_S1024x1024_S1024x1024) (constant S256x1024 .f32 0x00000000#32) := rfl

set_option maxRecDepth 16384

/-- A row's shares are its weights over its mass. -/
theorem shares_apply (s : FVec Ideal S1024x256 .f32) (r : Fin 1024) (j : Fin 256) :
    shares s (ix2 r j) = Ideal.div (wt (fun x => s (ix2 r x) * scale) j) (mass fun x => s (ix2 r x) * scale) := by
  pointwise [shares]
  rfl

/-- A group at row `r` and column `j`: the attention on the row of scores of that token and head. -/
theorem group_apply (s : FVec Ideal S1024x256 .f32) (v : FVec Ideal S256x128 .bf16) (r : Fin 256) (j : Fin 512) :
    group s v (ix2 r j) = mix (fun x => s (ix2 ⟨r.val * 4 + j.val / 128, by omega⟩ x) * scale)
      (fun x => v (ix2 x ⟨j.val % 128, by omega⟩)) := by
  pointwise [group]
  simp only [shares_apply]
  rfl

/-- The second group's scores: head `r % 4` of the token `r / 4` against token `j`. -/
theorem scores1_apply (q : FVec Ideal S256x1024 .bf16) (k : FVec Ideal S256x256 .bf16) (r : Fin 1024) (j : Fin 256) :
    scores1 q k (ix2 r j) = ∑ d : Fin 128, q (ix2 ⟨r.val / 4, by omega⟩ ⟨512 + (r.val % 4 * 128 + d.val), by omega⟩)
      * k (ix2 j ⟨128 + d.val, by omega⟩) := by
  pointwise [scores1]

/-- The second group's values. -/
theorem values1_apply (v : FVec Ideal S256x256 .bf16) (j : Fin 256) (d : Fin 128) :
    values1 v (ix2 j d) = v (ix2 j ⟨128 + d.val, by omega⟩) := by
  pointwise [values1]

/-- The queries. -/
theorem pay3_apply (x : FVec Ideal S1x256x1024 .bf16) (w : FVec Ideal S1024x1024 .bf16) (i : Fin 256) (n : Fin 1024) :
    k0_pay3 (F := Ideal) x w (ix2 i n) = ∑ k, x (ix3 0 i k) * w (ix2 k n) := by
  pointwise [k0_pay3, k0_pay2]

/-- The keys. -/
theorem pay4_apply (x : FVec Ideal S1x256x1024 .bf16) (w : FVec Ideal S1024x256 .bf16) (i n : Fin 256) :
    k0_pay4 (F := Ideal) x w (ix2 i n) = ∑ k, x (ix3 0 i k) * w (ix2 k n) := by
  pointwise [k0_pay4, k0_pay2]

/-- The values. -/
theorem pay5_apply (x : FVec Ideal S1x256x1024 .bf16) (w : FVec Ideal S1024x256 .bf16) (i n : Fin 256) :
    k0_pay5 (F := Ideal) x w (ix2 i n) = ∑ k, x (ix3 0 i k) * w (ix2 k n) := by
  pointwise [k0_pay5, k0_pay2]

/-- The first group's values. -/
theorem pay6_apply (x : FVec Ideal S1x256x1024 .bf16) (w : FVec Ideal S1024x256 .bf16) (j : Fin 256) (d : Fin 128) :
    k0_pay6 (F := Ideal) x w (ix2 j d) = k0_pay5 (F := Ideal) x w (ix2 j ⟨d.val, by omega⟩) := by
  pointwise [k0_pay6]

/-- The first group's scores. -/
theorem pay7_apply (x : FVec Ideal S1x256x1024 .bf16) (wq : FVec Ideal S1024x1024 .bf16) (wk : FVec Ideal S1024x256 .bf16)
    (r : Fin 1024) (j : Fin 256) :
    k0_pay7 (F := Ideal) x wq wk (ix2 r j) =
      ∑ d : Fin 128, k0_pay3 (F := Ideal) x wq (ix2 ⟨r.val / 4, by omega⟩ ⟨r.val % 4 * 128 + d.val, by omega⟩)
        * k0_pay4 (F := Ideal) x wk (ix2 j ⟨d.val, by omega⟩) := by
  pointwise [k0_pay7]

/-- The partial product: the two groups' columns against the rows of the output weight's block. -/
theorem pay8_apply (q : FVec Ideal S256x1024 .bf16) (k v : FVec Ideal S256x256 .bf16) (v0 : FVec Ideal S256x128 .bf16)
    (s0 : FVec Ideal S1024x256 .f32) (wo : FVec Ideal S1024x1024 .bf16) (i : Fin 256) (o : Fin 1024) :
    k0_pay8 (F := Ideal) q k v v0 s0 wo (ix2 i o) =
      ∑ x : Fin 512, group s0 v0 (ix2 i x) * wo (ix2 ⟨x.val, by omega⟩ o)
        + ∑ x : Fin 512, group (scores1 q k) (values1 v) (ix2 i x) * wo (ix2 ⟨512 + x.val, by omega⟩ o) := by
  rw [pay8_eq]
  pointwise

/-- A device's columns of the key weight, or of the value weight. -/
theorem cols_apply (c : Dev nD) (w : Vec Ideal S1024x1024 .bf16) (k : Fin 1024) (n : Fin 256) :
    cols c w (ix2 k n) = w (ix2 k ⟨256 * c.val + n.val, by have := c.isLt; have : nD = 4 := rfl; omega⟩) := by
  unfold cols
  refine congrArg w (funext fun a => Fin.ext ?_)
  have h := congrFun (k0_off1_eq c) a
  fin_cases a
  · show k0_off1 c 0 + 1 * k.val = k.val
    rw [show k0_off1 c 0 = 0 from h]; omega
  · show k0_off1 c 1 + 1 * n.val = 256 * c.val + n.val
    rw [show k0_off1 c 1 = 256 * c.val from h]; omega

/-- What is sent in the first exchange is the partial product. -/
theorem pay9_eq (q : FVec Ideal S256x1024 .bf16) (k v : FVec Ideal S256x256 .bf16) (v0 : FVec Ideal S256x128 .bf16)
    (s0 : FVec Ideal S1024x256 .f32) (wo : FVec Ideal S1024x1024 .bf16) (i : Fin 256) (o : Fin 1024) :
    k0_pay9 (F := Ideal) q k v v0 s0 wo (ix2 i o) = k0_pay8 (F := Ideal) q k v v0 s0 wo (ix2 i o) := by
  pointwise [k0_pay9]

/-- The sum after the first exchange. -/
theorem pay10_apply (a : FVec Ideal S256x1024 .f32) (b : FVec Ideal S256x1024 .bf16) (i : Fin 256) (o : Fin 1024) :
    k0_pay10 (F := Ideal) a b (ix2 i o) = a (ix2 i o) + b (ix2 i o) := by
  pointwise [k0_pay10]

/-- What is sent in the second exchange is that sum. -/
theorem pay11_apply (a : FVec Ideal S256x1024 .f32) (b : FVec Ideal S256x1024 .bf16) (i : Fin 256) (o : Fin 1024) :
    k0_pay11 (F := Ideal) a b (ix2 i o) = a (ix2 i o) + b (ix2 i o) := by
  pointwise [k0_pay11, k0_pay10]

/-- The sum after the second exchange. -/
theorem pay1_apply (a : FVec Ideal S256x1024 .f32) (b : FVec Ideal S256x1024 .bf16) (i : Fin 256) (o : Fin 1024) :
    k0_pay1 (F := Ideal) a b (ix3 0 i o) = a (ix2 i o) + b (ix2 i o) := by
  pointwise [k0_pay1]

end Cert.Butterfly

end
-- ==== Proof.Attention.lean ====
/-
# The attention, by output column

What both programs compute of the whole arrays: for each of the 4096 columns of the queries, the attention of its head on
that column of its values, and the product of those with the output weight.
-/
module

public import proofs.«01_k».proof.Proof.Softmax

@[expose] public section

noncomputable section

namespace Cert.Butterfly

open Idealize.ShloMosaic

/-- A product of the tokens with a weight, at token `i` and column `n`. -/
def proj {N : ℕ} (x : Fin 256 → Fin 1024 → EReal) (w : Fin 1024 → Fin N → EReal) (i : Fin 256) (n : Fin N) : EReal :=
  ∑ k, x i k * w k n

/-- A product of real numbers is one. -/
theorem proj_real {N : ℕ} {x : Fin 256 → Fin 1024 → EReal} {w : Fin 1024 → Fin N → EReal} (hx : ∀ i k, Real' (x i k))
    (hw : ∀ k n, Real' (w k n)) (i : Fin 256) (n : Fin N) : Real' (proj x w i n) :=
  .sum _ fun k => (hx i k).mul (hw k n)

/-- The score of token `i` against token `j` in the head that has query column `n`: 128 columns make a head, and four heads
    of queries share one of keys. -/
def score (x : Fin 256 → Fin 1024 → EReal) (wq : Fin 1024 → Fin 4096 → EReal) (wk : Fin 1024 → Fin 1024 → EReal)
    (n : Fin 4096) (i j : Fin 256) : EReal :=
  (∑ d : Fin 128, proj x wq i ⟨n.val / 128 * 128 + d.val, by omega⟩ * proj x wk j ⟨n.val / 512 * 128 + d.val, by omega⟩) * scale

/-- Scores of real tokens and weights are real. -/
theorem score_real {x : Fin 256 → Fin 1024 → EReal} {wq : Fin 1024 → Fin 4096 → EReal} {wk : Fin 1024 → Fin 1024 → EReal}
    (hx : ∀ i k, Real' (x i k)) (hq : ∀ k n, Real' (wq k n)) (hk : ∀ k n, Real' (wk k n)) (n : Fin 4096) (i j : Fin 256) :
    Real' (score x wq wk n i j) :=
  (Real'.sum _ fun _ => (proj_real hx hq _ _).mul (proj_real hx hk _ _)).mul scale_real

/-- The attention of token `i` in column `n`. -/
def att (x : Fin 256 → Fin 1024 → EReal) (wq : Fin 1024 → Fin 4096 → EReal) (wk wv : Fin 1024 → Fin 1024 → EReal)
    (i : Fin 256) (n : Fin 4096) : EReal :=
  mix (score x wq wk n i) fun j => proj x wv j ⟨n.val / 512 * 128 + n.val % 128, by omega⟩

/-- One column's term of the result. -/
def term (x : Fin 256 → Fin 1024 → EReal) (wq : Fin 1024 → Fin 4096 → EReal) (wk wv : Fin 1024 → Fin 1024 → EReal)
    (wo : Fin 4096 → Fin 1024 → EReal) (i : Fin 256) (o : Fin 1024) (n : Fin 4096) : EReal :=
  att x wq wk wv i n * wo n o

/-- A sum over the 4096 columns, device by device and half by half. -/
theorem sum_columns (f : Fin 4096 → EReal) :
    ∑ n, f n = ∑ c : Fin 4, ((∑ y : Fin 512, f ⟨1024 * c.val + y.val, by omega⟩)
      + ∑ y : Fin 512, f ⟨1024 * c.val + (512 + y.val), by omega⟩) := by
  have h : ∑ n, f n = ∑ c : Fin 4, ∑ y : Fin 1024, f ⟨1024 * c.val + y.val, by omega⟩ := by
    rw [← Fintype.sum_prod_type', ← Equiv.sum_comp (finProdFinEquiv (m := 4) (n := 1024))]
    exact Finset.sum_congr rfl fun p _ => congrArg f (Fin.ext (by simp [finProdFinEquiv]; omega))
  rw [h]
  exact Finset.sum_congr rfl fun c _ => Fin.sum_univ_two_halves 512 512 rfl _

end Cert.Butterfly

end
-- ==== Proof.KernelSum.lean ====
/-
# A device's partial product, by output column

Device `c` holds 1024 of the 4096 columns of the query weight and the same rows of the output weight, and takes the 256
columns of keys and values that go with them: its partial product is those columns' part of the whole sum. The two
exchanges add up the four devices' parts, on every device.
-/
module

public import proofs.«01_k».proof.Proof.KernelValue
public import proofs.«01_k».proof.Proof.Attention

@[expose] public section

noncomputable section

namespace Cert.Butterfly

open Cert.KernelIdeal Cert.KernelIdeal.Gen
open Idealize.ShloMosaic

section
variable (c : Dev nD) (x : FVec Ideal S1x256x1024 .bf16) (wq wo wk wv : FVec Ideal S1024x1024 .bf16)
variable (X : Fin 256 → Fin 1024 → EReal) (Wq : Fin 1024 → Fin 4096 → EReal) (Wk Wv : Fin 1024 → Fin 1024 → EReal)
  (Wo : Fin 4096 → Fin 1024 → EReal)

/-- The column of the whole arrays at which column `n` of device `c`'s block lies. -/
def col (c : Dev nD) (n : ℕ) (h : n < 1024) : Fin 4096 := ⟨1024 * c.val + n, by have := c.isLt; have : nD = 4 := rfl; omega⟩

/-- The blocks of device `c` are blocks of these whole arrays. -/
structure Blocks : Prop where
  x : ∀ i k, x (ix3 0 i k) = X i k
  q : ∀ k (n : Fin 1024), wq (ix2 k n) = Wq k (col c n.val n.isLt)
  o : ∀ (n : Fin 1024) o, wo (ix2 n o) = Wo (col c n.val n.isLt) o
  k : ∀ k n, wk (ix2 k n) = Wk k n
  v : ∀ k n, wv (ix2 k n) = Wv k n

variable {c x wq wo wk wv X Wq Wk Wv Wo} (B : Blocks c x wq wo wk wv X Wq Wk Wv Wo)
include B

/-- Device `c`'s queries are its columns of the whole queries. -/
theorem queries (i : Fin 256) (n : Fin 1024) : k0_pay3 (F := Ideal) x wq (ix2 i n) = proj X Wq i (col c n.val n.isLt) := by
  rw [pay3_apply]
  exact Finset.sum_congr rfl fun k _ => by rw [B.x, B.q]

/-- Its keys are its columns of the whole keys. -/
theorem keys (j : Fin 256) (n : Fin 256) (n' : Fin 1024) (h : n'.val = 256 * c.val + n.val) :
    k0_pay4 (F := Ideal) x (cols c wk) (ix2 j n) = proj X Wk j n' := by
  rw [pay4_apply]
  refine Finset.sum_congr rfl fun k _ => ?_
  rw [B.x, cols_apply, B.k]
  exact congrArg (fun e => X j k * Wk k e) (Fin.ext h.symm)

/-- Its values are its columns of the whole values. -/
theorem values (j : Fin 256) (n : Fin 256) (n' : Fin 1024) (h : n'.val = 256 * c.val + n.val) :
    k0_pay5 (F := Ideal) x (cols c wv) (ix2 j n) = proj X Wv j n' := by
  rw [pay5_apply]
  refine Finset.sum_congr rfl fun k _ => ?_
  rw [B.x, cols_apply, B.v]
  exact congrArg (fun e => X j k * Wv k e) (Fin.ext h.symm)

/-- The first group's attention is that of the first half of the device's columns. -/
theorem group_first (i : Fin 256) (y : Fin 512) :
    group (k0_pay7 (F := Ideal) x wq (cols c wk)) (k0_pay6 (F := Ideal) x (cols c wv)) (ix2 i y)
      = att X Wq Wk Wv i (col c y.val (by omega)) := by
  rw [group_apply]
  unfold att
  refine congr (congrArg mix (funext fun j => ?_)) (funext fun j => ?_)
  · refine congrArg (· * scale) ?_
    rw [pay7_apply]
    refine Finset.sum_congr rfl fun d _ => ?_
    rw [queries B, keys B _ _ ⟨(col c y.val (by omega)).val / 512 * 128 + d.val, by omega⟩ (by simp only [col]; omega)]
    refine congrArg (· * _) (congr (congrArg (proj X Wq) (Fin.ext ?_)) (Fin.ext ?_)) <;> simp only [col] <;> omega
  · rw [pay6_apply]
    exact values B _ _ _ (by simp only [col]; omega)

/-- The second group's attention is that of the second half. -/
theorem group_second (i : Fin 256) (y : Fin 512) :
    group (scores1 (k0_pay3 (F := Ideal) x wq) (k0_pay4 (F := Ideal) x (cols c wk)))
      (values1 (k0_pay5 (F := Ideal) x (cols c wv))) (ix2 i y) = att X Wq Wk Wv i (col c (512 + y.val) (by omega)) := by
  rw [group_apply]
  unfold att
  refine congr (congrArg mix (funext fun j => ?_)) (funext fun j => ?_)
  · refine congrArg (· * scale) ?_
    rw [scores1_apply]
    refine Finset.sum_congr rfl fun d _ => ?_
    rw [queries B, keys B _ _ ⟨(col c (512 + y.val) (by omega)).val / 512 * 128 + d.val, by omega⟩ (by simp only [col]; omega)]
    refine congrArg (· * _) (congr (congrArg (proj X Wq) (Fin.ext ?_)) (Fin.ext ?_)) <;> simp only [col] <;> omega
  · rw [values1_apply]
    exact values B _ _ _ (by simp only [col]; omega)

/-- Device `c`'s partial product is its columns' part of the sum. -/
theorem part_columns (i : Fin 256) (o : Fin 1024) :
    k0_pay8 (F := Ideal) (k0_pay3 x wq) (k0_pay4 x (cols c wk)) (k0_pay5 x (cols c wv)) (k0_pay6 x (cols c wv))
        (k0_pay7 x wq (cols c wk)) wo (ix2 i o)
      = (∑ y : Fin 512, term X Wq Wk Wv Wo i o (col c y.val (by omega)))
        + ∑ y : Fin 512, term X Wq Wk Wv Wo i o (col c (512 + y.val) (by omega)) := by
  rw [pay8_apply]
  refine congr (congrArg _ (Finset.sum_congr rfl fun y _ => ?_)) (Finset.sum_congr rfl fun y _ => ?_)
  · rw [group_first B, B.o]; rfl
  · rw [group_second B, B.o]; rfl
end

/-- The four partial products, added in the order in which the exchanges bring them to a device, are their sum. -/
theorem sum_mates (f : Dev nD → EReal) (c : Dev nD) :
    (f c + f (mate 0 c)) + (f (mate 1 c) + f (mate 0 (mate 1 c))) = ∑ d : Fin 4, f d := by
  rw [Fin.sum_univ_four]
  have hc : c = (0 : Fin 4) ∨ c = (1 : Fin 4) ∨ c = (2 : Fin 4) ∨ c = (3 : Fin 4) := by revert c; decide
  obtain rfl | rfl | rfl | rfl := hc
  · rw [show mate 0 (0 : Fin 4) = (1 : Fin 4) by decide, show mate 1 (0 : Fin 4) = (2 : Fin 4) by decide,
      show mate 0 (2 : Fin 4) = (3 : Fin 4) by decide, add_assoc (f 0 + f 1)]
  · rw [show mate 0 (1 : Fin 4) = (0 : Fin 4) by decide, show mate 1 (1 : Fin 4) = (3 : Fin 4) by decide,
      show mate 0 (3 : Fin 4) = (2 : Fin 4) by decide, add_assoc (f 0 + f 1), add_comm (f 1), add_comm (f 3)]
  · rw [show mate 0 (2 : Fin 4) = (3 : Fin 4) by decide, show mate 1 (2 : Fin 4) = (0 : Fin 4) by decide,
      show mate 0 (0 : Fin 4) = (1 : Fin 4) by decide, add_comm (f 2 + f 3), add_assoc (f 0 + f 1)]
  · rw [show mate 0 (3 : Fin 4) = (2 : Fin 4) by decide, show mate 1 (3 : Fin 4) = (1 : Fin 4) by decide,
      show mate 0 (1 : Fin 4) = (0 : Fin 4) by decide, add_comm (f 3 + f 2), add_assoc (f 0 + f 1), add_comm (f 1), add_comm (f 3)]

/-- What a device ends with, from the four partial products. -/
theorem result_apply (m : (ℓ : Loc nD τ sig) → Buf (Elt Ideal) ℓ) (c : Dev nD) (i : Fin 256) (o : Fin 1024) :
    result m c (ix3 0 i o) = ∑ d : Fin 4, part m d (ix2 i o) := by
  have h0 : ∀ d, msg0 m d (ix2 i o) = part m d (ix2 i o) := fun d => pay9_eq _ _ _ _ _ _ i o
  rw [← sum_mates (fun d => part m d (ix2 i o)) c]
  unfold result
  rw [pay1_apply, pay10_apply]
  show part m c (ix2 i o) + msg0 m (mate 0 c) (ix2 i o)
    + k0_pay11 (part m (mate 1 c)) (msg0 m (mate 0 (mate 1 c))) (ix2 i o) = _
  rw [pay11_apply, h0, h0]

end Cert.Butterfly

end
-- ==== Proof.RefValue.lean ====
/-
# The reference's result at an index

The reference's term in stages, each read at an index.
-/
module

public import proofs.«01_k».proof.Proof.Gen.ReferenceIdeal.Run
public import proofs.«01_k».proof.Proof.Softmax
public import Idealize.ShloMosaic.Lib.KernelVsHost

@[expose] public section

noncomputable section

namespace Cert.Butterfly

open Cert.ReferenceIdeal Cert.ReferenceIdeal.Gen
open Idealize.ShloMosaic Idealize.ShloMosaic.TcCoe

/-- The queries, by head. -/
def refQ (x : FVec Ideal S1x256x1024 .bf16) (w : FVec Ideal S1024x4096 .bf16) : FVec Ideal S1x256x32x128 .bf16 :=
  shapeCast _ (truncf .bf16 (Host.dotGeneral dot_S1x256x1024_S1024x4096_S1x256x4096_2_0_01_1_n_n none x w) bitsLt_bf16_f32)
    shapeCasts_S1x256x4096_S1x256x32x128

/-- The keys, or the values, each head of them written for the four query heads that use it. -/
def refKV (x : FVec Ideal S1x256x1024 .bf16) (w : FVec Ideal S1024x1024 .bf16) : FVec Ideal S1x256x32x128 .bf16 :=
  shapeCast _ (broadcastInDim S1x256x8x4x128 ![0, 1, 2, 4] bcast_S1x256x8x128_S1x256x8x4x128_0_1_2_4
    (shapeCast _ (truncf .bf16 (Host.dotGeneral dot_S1x256x1024_S1024x1024_S1x256x1024_2_0_01_1_n_n none x w) bitsLt_bf16_f32)
      shapeCasts_S1x256x1024_S1x256x8x128)) shapeCasts_S1x256x8x4x128_S1x256x32x128

/-- The scores, rounded and then scaled. -/
def refS (q k : FVec Ideal S1x256x32x128 .bf16) : FVec Ideal S1x32x256x256 .f32 :=
  mulf (extf .f32 (truncf .bf16 (Host.dotGeneral dot_S1x256x32x128_S1x256x32x128_S1x32x256x256_3_3_1_1_02_02 none q k)
      bitsLt_bf16_f32) bitsLt_bf16_f32)
    (broadcastInDim S1x32x256x256 ![] bcast_S_S1x32x256x256 (constant S_ .f32 0x3DB504F3#32))

/-- Minus infinity, where the running maximum starts. -/
def refLow : FVec Ideal S1x32x256x1 .f32 := broadcastInDim S1x32x256x1 ![] bcast_S_S1x32x256x1 (constant S_ .f32 0xFF800000#32)

/-- The running maximum after the one step. -/
def refM (s : FVec Ideal S1x32x256x256 .f32) : FVec Ideal S1x32x256x1 .f32 :=
  maximumf refLow (broadcastInDim S1x32x256x1 ![0, 1, 2] bcast_S1x32x256_S1x32x256x1_0_1_2
    (Host.reduce FloatOps.maximumf s (constant S_ .f32 0xFF800000#32) reducesTo_S1x32x256x256_S1x32x256_d3 h_S_))

/-- The factor on what was accumulated before the step. -/
def refA (mx : FVec Ideal S1x32x256x1 .f32) : FVec Ideal S1x32x256x1 .f32 := Host.exp (subf refLow mx)

/-- The exponentials of the scores less the maximum. -/
def refP (s : FVec Ideal S1x32x256x256 .f32) (mx : FVec Ideal S1x32x256x1 .f32) : FVec Ideal S1x32x256x256 .f32 :=
  Host.exp (subf s (broadcastInDim S1x32x256x256 ![0, 1, 2, 3] bcast_S1x32x256x1_S1x32x256x256_0_1_2_3 mx))

/-- The weighted values after the step. -/
def refO (a : FVec Ideal S1x32x256x1 .f32) (p : FVec Ideal S1x32x256x256 .f32) (v : FVec Ideal S1x256x32x128 .bf16) :
    FVec Ideal S1x256x32x128 .f32 :=
  addf (mulf (broadcastInDim S1x256x32x128 ![] bcast_S_S1x256x32x128 (constant S_ .f32 0x00000000#32))
      (broadcastInDim S1x256x32x128 ![0, 1, 2, 3] bcast_S1x256x32x1_S1x256x32x128_0_1_2_3
        (transpose S1x256x32x1 [0, 2, 1, 3] a transposes_S1x32x256x1_S1x256x32x1_0_2_1_3)))
    (transpose S1x256x32x128 [0, 3, 1, 2] (Host.dotGeneral dot_S1x256x32x128_S1x32x256x256_S1x32x128x256_1_3_3_2_02_01 none
      (extf .f32 v bitsLt_bf16_f32) p) transposes_S1x32x128x256_S1x256x32x128_0_3_1_2)

/-- The sum of the exponentials after the step. -/
def refL (a : FVec Ideal S1x32x256x1 .f32) (p : FVec Ideal S1x32x256x256 .f32) : FVec Ideal S1x32x256x1 .f32 :=
  addf (mulf (broadcastInDim S1x32x256x1 ![] bcast_S_S1x32x256x1 (constant S_ .f32 0x00000000#32)) a)
    (broadcastInDim S1x32x256x1 ![0, 1, 2] bcast_S1x32x256_S1x32x256x1_0_1_2
      (Host.reduceAdd p (constant S_ .f32 0x00000000#32) reducesTo_S1x32x256x256_S1x32x256_d3 h_S_))

/-- The attention: the weighted values over the sum of the weights. -/
def refAtt (s : FVec Ideal S1x32x256x256 .f32) (v : FVec Ideal S1x256x32x128 .bf16) : FVec Ideal S1x256x32x128 .f32 :=
  Host.divf (refO (refA (refM s)) (refP s (refM s)) v)
    (broadcastInDim S1x256x32x128 ![0, 1, 2, 3] bcast_S1x256x32x1_S1x256x32x128_0_1_2_3
      (transpose S1x256x32x1 [0, 2, 1, 3] (refL (refA (refM s)) (refP s (refM s))) transposes_S1x32x256x1_S1x256x32x1_0_2_1_3))

/-- The result. -/
def refOut (att : FVec Ideal S1x256x32x128 .f32) (w : FVec Ideal S4096x1024 .bf16) : FVec Ideal S1x256x1024 .f32 :=
  Host.dotGeneral dot_S1x256x4096_S4096x1024_S1x256x1024_2_0_01_1_n_n none (shapeCast _ att shapeCasts_S1x256x32x128_S1x256x4096)
    (extf .f32 w bitsLt_bf16_f32)

/-- The whole reference. -/
def refAll (x : FVec Ideal S1x256x1024 .bf16) (wq : FVec Ideal S1024x4096 .bf16) (wo : FVec Ideal S4096x1024 .bf16)
    (wk wv : FVec Ideal S1024x1024 .bf16) : FVec Ideal S1x256x1024 .f32 :=
  refOut (refAtt (refS (refQ x wq) (refKV x wk)) (refKV x wv)) wo

/-- What the reference's run leaves is that. -/
theorem res_eq (m : (ℓ : Loc nD τ sig) → Buf (Elt Ideal) ℓ) (c : Dev nD) :
    Value.res_main_v45 m c = refAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v45
  rfl

set_option maxRecDepth 16384

theorem refQ_apply (x : FVec Ideal S1x256x1024 .bf16) (w : FVec Ideal S1024x4096 .bf16) (i : Fin 256) (h : Fin 32) (d : Fin 128) :
    refQ x w (ix4 0 i h d) = ∑ k, x (ix3 0 i k) * w (ix2 k ⟨h.val * 128 + d.val, by omega⟩) := by
  pointwise [refQ]

theorem refKV_apply (x : FVec Ideal S1x256x1024 .bf16) (w : FVec Ideal S1024x1024 .bf16) (i : Fin 256) (h : Fin 32) (d : Fin 128) :
    refKV x w (ix4 0 i h d) = ∑ k, x (ix3 0 i k) * w (ix2 k ⟨h.val / 4 * 128 + d.val, by omega⟩) := by
  pointwise [refKV]

theorem refS_apply (q k : FVec Ideal S1x256x32x128 .bf16) (h : Fin 32) (i j : Fin 256) :
    refS q k (ix4 0 h i j) = (∑ d, q (ix4 0 i h d) * k (ix4 0 j h d)) * scale := by
  pointwise [refS]
  rfl

/-- The maximum after the one step is the row's greatest score. -/
theorem refM_apply (s : FVec Ideal S1x32x256x256 .f32) (h : Fin 32) (i : Fin 256) :
    refM s (ix4 0 h i 0) = top fun j => s (ix4 0 h i j) := by
  have e : refM s (ix4 0 h i 0) = max low (top fun j => s (ix4 0 h i j)) := by
    pointwise [refM, refLow]
    rfl
  rw [e, low_eq]
  exact max_eq_right bot_le

theorem refP_apply (s : FVec Ideal S1x32x256x256 .f32) (h : Fin 32) (i j : Fin 256) :
    refP s (refM s) (ix4 0 h i j) = wt (fun x => s (ix4 0 h i x)) j := by
  have e : refP s (refM s) (ix4 0 h i j) = Ideal.exp (s (ix4 0 h i j) - refM s (ix4 0 h i 0)) := by
    pointwise [refP]
  rw [e, refM_apply]
  rfl

theorem refO_apply (a : FVec Ideal S1x32x256x1 .f32) (p : FVec Ideal S1x32x256x256 .f32) (v : FVec Ideal S1x256x32x128 .bf16)
    (i : Fin 256) (h : Fin 32) (d : Fin 128) :
    refO a p v (ix4 0 i h d) = 0 * a (ix4 0 h i 0) + ∑ x, v (ix4 0 x h d) * p (ix4 0 h i x) := by
  pointwise [refO]

theorem refL_apply (a : FVec Ideal S1x32x256x1 .f32) (p : FVec Ideal S1x32x256x256 .f32) (h : Fin 32) (i : Fin 256) :
    refL a p (ix4 0 h i 0) = 0 * a (ix4 0 h i 0) + ∑ x, p (ix4 0 h i x) := by
  pointwise [refL]

/-- The attention of a head whose scores of a token are real numbers. -/
theorem refAtt_apply (s : FVec Ideal S1x32x256x256 .f32) (v : FVec Ideal S1x256x32x128 .bf16) (i : Fin 256) (h : Fin 32)
    (d : Fin 128) (hs : ∀ j, Real' (s (ix4 0 h i j))) :
    refAtt s v (ix4 0 i h d) = mix (fun j => s (ix4 0 h i j)) (fun j => v (ix4 0 j h d)) := by
  have e : refAtt s v (ix4 0 i h d) = Ideal.div (refO (refA (refM s)) (refP s (refM s)) v (ix4 0 i h d))
      (refL (refA (refM s)) (refP s (refM s)) (ix4 0 h i 0)) := by
    pointwise [refAtt]
  rw [e, refO_apply, refL_apply]
  simp only [refP_apply]
  exact mix_eq hs _ _ _

theorem refOut_apply (a : FVec Ideal S1x256x32x128 .f32) (w : FVec Ideal S4096x1024 .bf16) (i : Fin 256) (o : Fin 1024) :
    refOut a w (ix3 0 i o) = ∑ n : Fin 4096, a (ix4 0 i ⟨n.val / 128, by omega⟩ ⟨n.val % 128, by omega⟩) * w (ix2 n o) := by
  pointwise [refOut]

end Cert.Butterfly

end
-- ==== Proof.RefSum.lean ====
/-
# The reference's result, by output column

The reference's result at a token and an output is the sum over the 4096 columns of the attention times the output weight.
-/
module

public import proofs.«01_k».proof.Proof.RefValue
public import proofs.«01_k».proof.Proof.Attention

@[expose] public section

noncomputable section

namespace Cert.Butterfly

open Cert.ReferenceIdeal Cert.ReferenceIdeal.Gen
open Idealize.ShloMosaic

variable (x : FVec Ideal S1x256x1024 .bf16) (wq : FVec Ideal S1024x4096 .bf16) (wo : FVec Ideal S4096x1024 .bf16)
  (wk wv : FVec Ideal S1024x1024 .bf16)

/-- The reference's scores, in the head of column `n`. -/
theorem refS_score (n : Fin 4096) (i j : Fin 256) :
    refS (refQ x wq) (refKV x wk) (ix4 0 ⟨n.val / 128, by omega⟩ i j)
      = score (fun i k => x (ix3 0 i k)) (fun k n => wq (ix2 k n)) (fun k n => wk (ix2 k n)) n i j := by
  rw [refS_apply]
  unfold score proj
  refine congrArg (· * scale) (Finset.sum_congr rfl fun d _ => ?_)
  rw [refQ_apply, refKV_apply]
  refine congrArg _ (Finset.sum_congr rfl fun k _ => congrArg (fun c => x (ix3 0 j k) * wk (ix2 k c)) (Fin.ext ?_))
  show n.val / 128 / 4 * 128 + d.val = n.val / 512 * 128 + d.val
  omega

/-- The reference's result, where the tokens and the weights of queries and keys are real numbers. -/
theorem refAll_apply (hx : ∀ i k, Real' (x (ix3 0 i k))) (hq : ∀ k n, Real' (wq (ix2 k n))) (hk : ∀ k n, Real' (wk (ix2 k n)))
    (i : Fin 256) (o : Fin 1024) :
    refAll x wq wo wk wv (ix3 0 i o) = ∑ n, term (fun i k => x (ix3 0 i k)) (fun k n => wq (ix2 k n)) (fun k n => wk (ix2 k n))
      (fun k n => wv (ix2 k n)) (fun n o => wo (ix2 n o)) i o n := by
  unfold refAll
  rw [refOut_apply]
  refine Finset.sum_congr rfl fun n _ => ?_
  unfold term att
  refine congrArg (· * wo (ix2 n o)) ?_
  rw [refAtt_apply _ _ _ _ _ fun j => by rw [refS_score]; exact score_real hx hq hk n i j]
  refine congr (congrArg mix (funext fun j => refS_score x wq wk n i j)) (funext fun j => ?_)
  rw [refKV_apply]
  refine Finset.sum_congr rfl fun k _ => congrArg (fun c => x (ix3 0 j k) * wv (ix2 k c)) (Fin.ext ?_)
  show n.val / 128 / 4 * 128 + n.val % 128 = n.val / 512 * 128 + n.val % 128
  omega

end Cert.Butterfly

end
-- ==== Proof.Equation.lean ====
/-
# Kernel and reference compute the same

Every device's result is the reference's: the four partial products are the four parts of the reference's sum over the
4096 columns.
-/
module

public import proofs.«01_k».proof.Proof.Arrays
public import proofs.«01_k».proof.Proof.KernelSum
public import proofs.«01_k».proof.Proof.RefSum
public import Idealize.ShloMosaic.Lib.Layout

@[expose] public section

noncomputable section

namespace Cert.Butterfly

open Idealize.ShloMosaic Idealize.ShloMosaic.TcCoe

/-- A device's blocks, from the agreement of its arguments with the reference's. -/
theorem blocks_of (m : (ℓ : Loc Cert.KernelIdeal.nD Cert.KernelIdeal.τ Cert.KernelIdeal.sig) → Buf (Elt Ideal) ℓ)
    (c : Dev Cert.KernelIdeal.nD) (x : FVec Ideal ⟨3, ![1, 256, 1024]⟩ .bf16) (wq : FVec Ideal ⟨2, ![1024, 4096]⟩ .bf16)
    (wo : FVec Ideal ⟨2, ![4096, 1024]⟩ .bf16) (wk wv : FVec Ideal ⟨2, ![1024, 1024]⟩ .bf16)
    (hx : m ((c.tc : Thread Cert.KernelIdeal.nD Cert.KernelIdeal.τ).loc Cert.KernelIdeal.main_arg0) = x)
    (hq : m ((c.tc : Thread Cert.KernelIdeal.nD Cert.KernelIdeal.τ).loc Cert.KernelIdeal.main_arg1)
      = Layout.block ⟨2, ![1024, 1024]⟩ ⟨2, ![1024, 4096]⟩ 1 4 c wq)
    (ho : m ((c.tc : Thread Cert.KernelIdeal.nD Cert.KernelIdeal.τ).loc Cert.KernelIdeal.main_arg2)
      = Layout.block ⟨2, ![1024, 1024]⟩ ⟨2, ![4096, 1024]⟩ 0 4 c wo)
    (hk : m ((c.tc : Thread Cert.KernelIdeal.nD Cert.KernelIdeal.τ).loc Cert.KernelIdeal.main_arg3) = wk)
    (hv : m ((c.tc : Thread Cert.KernelIdeal.nD Cert.KernelIdeal.τ).loc Cert.KernelIdeal.main_arg4) = wv) :
    Blocks c (xIn m c) (wqIn m c) (woIn m c) (wkIn m c) (wvIn m c) (fun i k => x (ix3 0 i k)) (fun k n => wq (ix2 k n))
      (fun k n => wk (ix2 k n)) (fun k n => wv (ix2 k n)) (fun n o => wo (ix2 n o)) where
  x i k := by rw [xIn_eq, hx]
  q k n := by
    rw [wqIn_eq, hq]
    refine congrArg wq (funext fun a => Fin.ext ?_)
    fin_cases a
    · rfl
    · show c.val * 1024 + n.val = 1024 * c.val + n.val
      omega
  o n o := by
    rw [woIn_eq, ho]
    refine congrArg wo (funext fun a => Fin.ext ?_)
    fin_cases a
    · show c.val * 1024 + n.val = 1024 * c.val + n.val
      omega
    · rfl
  k k n := by rw [wkIn_eq, hk]
  v k n := by rw [wvIn_eq, hv]

/-- A column of the whole query weight is a column of some device's block, so its entries are real where the blocks' are. -/
theorem whole_real (wq : FVec Ideal ⟨2, ![1024, 4096]⟩ .bf16)
    (h : ∀ c : Fin 4, ∀ i, Real' ((Layout.block ⟨2, ![1024, 1024]⟩ ⟨2, ![1024, 4096]⟩ 1 4 c wq) i)) (k : Fin 1024) (n : Fin 4096) :
    Real' (wq (ix2 k n)) := by
  have e := h ⟨n.val / 1024, by omega⟩ (ix2 k ⟨n.val % 1024, by omega⟩)
  refine (congrArg (fun i => Real' (wq i)) (funext fun a => Fin.ext ?_)).mp e
  fin_cases a
  · rfl
  · show n.val / 1024 * 1024 + n.val % 1024 = n.val
    omega

/-- Device `c`'s result is the reference's. -/
theorem result_eq (m : (ℓ : Loc Cert.KernelIdeal.nD Cert.KernelIdeal.τ Cert.KernelIdeal.sig) → Buf (Elt Ideal) ℓ)
    (pre : Cert.Pre_KernelIdeal_finite_scores_KernelIdeal m)
    (x : FVec Ideal ⟨3, ![1, 256, 1024]⟩ .bf16) (wq : FVec Ideal ⟨2, ![1024, 4096]⟩ .bf16)
    (wo : FVec Ideal ⟨2, ![4096, 1024]⟩ .bf16) (wk wv : FVec Ideal ⟨2, ![1024, 1024]⟩ .bf16)
    (h : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1)
        = Layout.block ⟨2, ![1024, 1024]⟩ ⟨2, ![1024, 4096]⟩ 1 4 c wq
      ∧ m ((c.tc : Thread Cert.KernelIdeal.nD Cert.KernelIdeal.τ).loc Cert.KernelIdeal.main_arg2)
        = Layout.block ⟨2, ![1024, 1024]⟩ ⟨2, ![4096, 1024]⟩ 0 4 c wo
      ∧ m ((c.tc : Thread Cert.KernelIdeal.nD Cert.KernelIdeal.τ).loc Cert.KernelIdeal.main_arg3) = wk
      ∧ m ((c.tc : Thread Cert.KernelIdeal.nD Cert.KernelIdeal.τ).loc Cert.KernelIdeal.main_arg4) = wv)
    (c : Dev Cert.KernelIdeal.nD) : result m c = refAll x wq wo wk wv := by
  have hx : ∀ i k, Real' (x (ix3 0 i k)) := fun i k => by
    rw [← (h c).1]; exact (finite_entries m pre c).1 _
  have hk : ∀ k n, Real' (wk (ix2 k n)) := fun k n => by
    rw [← (h c).2.2.2.1]; exact (finite_entries m pre c).2.2 _
  have hq : ∀ k n, Real' (wq (ix2 k n)) := whole_real wq fun d i => by
    rw [← (h d).2.1]; exact (finite_entries m pre d).2.1 _
  funext j
  obtain ⟨i, o, rfl⟩ : ∃ (i : Fin 256) (o : Fin 1024), j = ix3 0 i o := by
    refine ⟨j 1, j 2, funext fun a => ?_⟩
    fin_cases a
    · exact Fin.ext (Nat.lt_one_iff.mp (j 0).isLt)
    · rfl
    · rfl
  rw [result_apply, refAll_apply x wq wo wk wv hx hq hk, sum_columns]
  exact Finset.sum_congr rfl fun d _ =>
    part_columns (blocks_of m d x wq wo wk wv (h d).1 (h d).2.1 (h d).2.2.1 (h d).2.2.2.1 (h d).2.2.2.2) i o

/-- The claim on values: under the precondition every device of the kernel ends with the reference's result. -/
theorem same_values : Cert.algebraic_KernelIdeal_ReferenceIdeal_pre_finite_scores_KernelIdeal := by
  intro m g m' g' pre h
  refine ⟨_, ?_, (θ_run _ _ _).mono (fun r hr => hr 0) (Cert.ReferenceIdeal.Value.run m' g')⟩
  refine (θ_run _ _ _).mono (fun r hr c => ⟨((hr.1 c).1.trans (endA_out m c)).trans ?_, (hr.1 c).2⟩) (run_ends m g)
  rw [res_eq]
  exact result_eq m pre _ _ _ _ _ h c

end Cert.Butterfly

end
-- ==== Proof.lean ====
/-
# The certificate

Attention with grouped keys and values, its heads cut over four devices, summed over the devices by recursive doubling.

* Protocol: who signals and sends what to whom, and what each landing holds. Body: one device's part, step by step.
  Run: the launch on the four devices.
* Frames: every program ends with its arguments unchanged and its semaphores at zero.
* Arrays: each block is its whole array. KernelValue, KernelSum: a device's partial product, as its columns' part of one
  sum. RefValue, RefSum: the reference as that sum.
* Finite, Softmax: where the precondition is used. Attention: the common form. Equation: the two agree.
-/
module

public import proofs.«01_k».proof.Defs
public import proofs.«01_k».proof.Proof.Frames
public import proofs.«01_k».proof.Proof.Equation

@[expose] public section

noncomputable section

namespace Cert.Proof

/-- All claims, with the witnesses of the programs' stated facts first. -/
theorem claim : Cert.Claim :=
  ⟨Cert.Kernel.Gen.facts, Cert.KernelIdeal.Gen.facts, Cert.ReferenceIdeal.Gen.facts,
    Cert.Pre_finite_scores_KernelIdeal.sides, Cert.Pre_finite_scores_ReferenceIdeal.sides,
    Cert.Butterfly.frame_kernel, Cert.Butterfly.frame_ideal, Cert.Butterfly.frame_ideal_pre,
    Cert.Butterfly.frame_reference, Cert.Butterfly.frame_reference_pre, trivial, Cert.Butterfly.same_values⟩

end Cert.Proof

end
